-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v356) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768x8 : Shape := ⟨2, ![768, 8]⟩
abbrev S8x1024x768 : Shape := ⟨3, ![8, 1024, 768]⟩
abbrev S8x768x512 : Shape := ⟨3, ![8, 768, 512]⟩
abbrev S768 : Shape := ⟨1, ![768]⟩
abbrev S_ : Shape := ⟨0, ![]⟩

class Facts : Prop where
  bcast_S_S1x2048x768 : S_.BroadcastsInDim S1x2048x768 (![] : Fin 0 → Fin S1x2048x768.rank)
  bcast_S_S768x8 : S_.BroadcastsInDim S768x8 (![] : Fin 0 → Fin S768x8.rank)
  bcast_S_S8x1024x768 : S_.BroadcastsInDim S8x1024x768 (![] : Fin 0 → Fin S8x1024x768.rank)
  bcast_S_S8x768x512 : S_.BroadcastsInDim S8x768x512 (![] : Fin 0 → Fin S8x768x512.rank)

variable [Facts]

def fn {F : FTy → Type} [FloatOps F] (main_arg0 : FVec F S1x2048x768 .f32) (main_arg1 : FVec F S768x8 .f32) (main_arg2 : FVec F S8x1024x768 .f32) (main_arg3 : FVec F S8x768x512 .f32) (main_arg4 : FVec F S768 .f32) : IVec S1x2048x768 1 × IVec S768x8 1 × IVec S8x1024x768 1 × IVec S8x768x512 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S768x8 .f32 := Host.absf main_arg1
  let main_cst_0 : FVec F S_ .f32 := constant S_ .f32 0x7F800000#32
  let main_v4 : FVec F S768x8 .f32 := broadcastInDim S768x8 ![] bcast_S_S768x8 main_cst_0
  let main_v5 : IVec S768x8 1 := cmpf .olt main_v3 main_v4
  let main_v6 : FVec F S8x1024x768 .f32 := Host.absf main_arg2
  let main_cst_1 : FVec F S_ .f32 := constant S_ .f32 0x7F800000#32
  let main_v7 : FVec F S8x1024x768 .f32 := broadcastInDim S8x1024x768 ![] bcast_S_S8x1024x768 main_cst_1
  let main_v8 : IVec S8x1024x768 1 := cmpf .olt main_v6 main_v7
  let main_v9 : FVec F S8x768x512 .f32 := Host.absf main_arg3
  let main_cst_2 : FVec F S_ .f32 := constant S_ .f32 0x7F800000#32
  let main_v10 : FVec F S8x768x512 .f32 := broadcastInDim S8x768x512 ![] bcast_S_S8x768x512 main_cst_2
  let main_v11 : IVec S8x768x512 1 := cmpf .olt main_v9 main_v10
  (main_v2, main_v5, main_v8, main_v11)
-- ==== Kernel.lean ====
abbrev S1x2048x768 : Shape := ⟨3, ![1, 2048, 768]⟩
abbrev S768x8 : Shape := ⟨2, ![768, 8]⟩
abbrev S8x1024x768 : Shape := ⟨3, ![8, 1024, 768]⟩
abbrev S8x768x512 : Shape := ⟨3, ![8, 768, 512]⟩
abbrev S768 : Shape := ⟨1, ![768]⟩
abbrev S2048x768 : Shape := ⟨2, ![2048, 768]⟩
abbrev S1x768 : Shape := ⟨2, ![1, 768]⟩
abbrev S1x1 : Shape := ⟨2, ![1, 1]⟩
abbrev S1x1024x768 : Shape := ⟨3, ![1, 1024, 768]⟩
abbrev S1x768x512 : Shape := ⟨3, ![1, 768, 512]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S1 : Shape := ⟨1, ![1]⟩
abbrev S1024x768 : Shape := ⟨2, ![1024, 768]⟩
abbrev S1024 : Shape := ⟨1, ![1024]⟩
abbrev S1024x1 : Shape := ⟨2, ![1024, 1]⟩
abbrev S1x1x1 : Shape := ⟨3, ![1, 1, 1]⟩
abbrev S768x512 : Shape := ⟨2, ![768, 512]⟩
abbrev S1024x1024 : Shape := ⟨2, ![1024, 1024]⟩
abbrev S1024x512 : Shape := ⟨2, ![1024, 512]⟩
abbrev S1024x8 : Shape := ⟨2, ![1024, 8]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8x1024x768, .f32⟩
  | .hbm, ⟨3, _⟩ => ⟨S8x768x512, .f32⟩
  | .hbm, ⟨4, _⟩ => ⟨S768, .f32⟩
  | .hbm, ⟨5, _⟩ => ⟨S2048x768, .f32⟩
  | .hbm, ⟨6, _⟩ => ⟨S1x768, .f32⟩
  | .hbm, ⟨7, _⟩ => ⟨S2048x768, .f32⟩
  | .hbm, ⟨8, _⟩ => ⟨S1x1, .f32⟩
  | .hbm, ⟨9, _⟩ => ⟨S1x2048x768, .f32⟩
  | .hbm, ⟨10, _⟩ => ⟨S_, .f32⟩
  | .local _ .vmem, ⟨0, _⟩ => ⟨S2048x768, .f32⟩
  | .local _ .vmem, ⟨1, _⟩ => ⟨S768x8, .f32⟩
  | .local _ .vmem, ⟨2, _⟩ => ⟨S1x1024x768, .f32⟩
  | .local _ .vmem, ⟨3, _⟩ => ⟨S1x1024x768, .f32⟩
  | .local _ .vmem, ⟨4, _⟩ => ⟨S1x768x512, .f32⟩
  | .local _ .vmem, ⟨5, _⟩ => ⟨S1x768x512, .f32⟩
  | .local _ .vmem, ⟨6, _⟩ => ⟨S1x768, .f32⟩
  | .local _ .vmem, ⟨7, _⟩ => ⟨S2048x768, .f32⟩
  | .local _ .vmem, ⟨8, _⟩ => ⟨S1x1, .f32⟩
  | .local _ .vmem, ⟨9, _⟩ => ⟨S2048x768, .f32⟩
  | .local _ .vmem, ⟨10, _⟩ => ⟨S2048x8, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x2048x768 : Shape := ⟨3, ![1, 2048, 768]⟩
abbrev S768x8 : Shape := ⟨2, ![768, 8]⟩
abbrev S8x1024x768 : Shape := ⟨3, ![8, 1024, 768]⟩
abbrev S8x768x512 : Shape := ⟨3, ![8, 768, 512]⟩
abbrev S768 : Shape := ⟨1, ![768]⟩
abbrev S2048x768 : Shape := ⟨2, ![2048, 768]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S8 : Shape := ⟨1, ![8]⟩
abbrev S1x1x8 : Shape := ⟨3, ![1, 1, 8]⟩
abbrev S2048x2x8 : Shape := ⟨3, ![2048, 2, 8]⟩
abbrev S8x1x1 : Shape := ⟨3, ![8, 1, 1]⟩
abbrev S1x1024x768 : Shape := ⟨3, ![1, 1024, 768]⟩
abbrev S1024x768 : Shape := ⟨2, ![1024, 768]⟩
abbrev S768x1024 : Shape := ⟨2, ![768, 1024]⟩
abbrev S2048x1024 : Shape := ⟨2, ![2048, 1024]⟩
abbrev S2048x512 : Shape := ⟨2, ![2048, 512]⟩
abbrev S1x768x512 : Shape := ⟨3, ![1, 768, 512]⟩
abbrev S768x512 : Shape := ⟨2, ![768, 512]⟩
abbrev S512x768 : Shape := ⟨2, ![512, 768]⟩
abbrev S1x1x768 : Shape := ⟨3, ![1, 1, 768]⟩

abbrev nBuf : Space → Nat
  | .hbm => 565
  | .vmem => 0
  | .smem => 0
  | _ => 0

abbrev hbmTy0_0 (i : Nat) : BufTy := match i % 128 with
  | 0 => ⟨S1x2048x768, .f32⟩
  | 1 => ⟨S768x8, .f32⟩
  | 2 => ⟨S8x1024x768, .f32⟩
  | 3 => ⟨S8x768x512, .f32⟩
  | 4 => ⟨S768, .f32⟩
  | 5 => ⟨S2048x768, .f32⟩
  | 6 => ⟨S2048x8, .f32⟩
  | 7 => ⟨S2048x2, .f32⟩
  | 8 => ⟨S2048x2, .i32⟩
  | 9 => ⟨S_, .f32⟩
  | 10 => ⟨S2048, .f32⟩
  | 11 => ⟨S_, .f32⟩
  | 12 => ⟨S2048, .f32⟩
  | 13 => ⟨S2048, .f32⟩
  | 14 => ⟨S2048x1, .f32⟩
  | 15 => ⟨S2048x2, .f32⟩
  | 16 => ⟨S2048x2, .f32⟩
  | 17 => ⟨S2048x2, .f32⟩
  | 18 => ⟨S_, .f32⟩
  | 19 => ⟨S2048, .f32⟩
  | 20 => ⟨S2048x1, .f32⟩
  | 21 => ⟨S2048x2, .f32⟩
  | 22 => ⟨S2048x2, .f32⟩
  | 23 => ⟨S2048, .i32⟩
  | 24 => ⟨S2048x1, .i32⟩
  | 25 => ⟨S2048x2, .i32⟩
  | 26 => ⟨S_, .f32⟩
  | 27 => ⟨S2048x8, .f32⟩
  | 28 => ⟨S_, .i32⟩
  | 29 => ⟨S2048x2, .i32⟩
  | 30 => ⟨S2048x2, .i1⟩
  | 31 => ⟨S_, .i32⟩
  | 32 => ⟨S2048x2, .i32⟩
  | 33 => ⟨S2048x2, .i32⟩
  | 34 => ⟨S2048x2, .i32⟩
  | 35 => ⟨S_, .i32⟩
  | 36 => ⟨S2048x2, .i32⟩
  | 37 => ⟨S2048x2, .i1⟩
  | 38 => ⟨S_, .i32⟩
  | 39 => ⟨S2048x2, .i32⟩
  | 40 => ⟨S2048x2, .i32⟩
  | 41 => ⟨S2048x2, .i32⟩
  | 42 => ⟨S2048x2x1, .i32⟩
  | 43 => ⟨S2048x2x1, .i32⟩
  | 44 => ⟨S2048x2x2, .i32⟩
  | 45 => ⟨S2048x8, .f32⟩
  | 46 => ⟨S_, .f32⟩
  | 47 => ⟨S2048, .f32⟩
  | 48 => ⟨S_, .f32⟩
  | 49 => ⟨S2048, .f32⟩
  | 50 => ⟨S2048, .f32⟩
  | 51 => ⟨S2048x1, .f32⟩
  | 52 => ⟨S2048x8, .f32⟩
  | 53 => ⟨S2048x8, .f32⟩
  | 54 => ⟨S2048x8, .f32⟩
  | 55 => ⟨S_, .f32⟩
  | 56 => ⟨S2048, .f32⟩
  | 57 => ⟨S2048x1, .f32⟩
  | 58 => ⟨S2048x8, .f32⟩
  | 59 => ⟨S2048x8, .f32⟩
  | 60 => ⟨S_, .f32⟩
  | 61 => ⟨S8, .f32⟩
  | 62 => ⟨S_, .f32⟩
  | 63 => ⟨S8, .f32⟩
  | 64 => ⟨S8, .f32⟩
  | 65 => ⟨S2048x2x1, .i32⟩
  | 66 => ⟨S1x1x8, .i32⟩
  | 67 => ⟨S2048x2x8, .i32⟩
  | 68 => ⟨S2048x2x8, .i32⟩
  | 69 => ⟨S2048x2x8, .i1⟩
  | 70 => ⟨S2048x2x8, .f32⟩
  | 71 => ⟨S_, .f32⟩
  | 72 => ⟨S2048x8, .f32⟩
  | 73 => ⟨S_, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S8, .f32⟩
  | 82 => ⟨S_, .f32⟩
  | 83 => ⟨S_, .f32⟩
  | 84 => ⟨S_, .f32⟩
  | 85 => ⟨S_, .f32⟩
  | 86 => ⟨S2048x768, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S_, .f32⟩
  | 94 => ⟨S2048x1, .f32⟩
  | 95 => ⟨S2048x1, .f32⟩
  | 96 => ⟨S2048x768, .f32⟩
  | 97 => ⟨S2048x768, .f32⟩
  | 98 => ⟨S2048x768, .f32⟩
  | 99 => ⟨S_, .f32⟩
  | 100 => ⟨S_, .f32⟩
  | 101 => ⟨S_, .f32⟩
  | 102 => ⟨S2048x768, .f32⟩
  | 103 => ⟨S2048x768, .f32⟩
  | 104 => ⟨S_, .f32⟩
  | 105 => ⟨S2048x768, .f32⟩
  | 106 => ⟨S2048x768, .f32⟩
  | 107 => ⟨S2048x768, .f32⟩
  | 108 => ⟨S2048x768, .f32⟩
  | 109 => ⟨S2048x768, .f32⟩
  | 110 => ⟨S2048x768, .f32⟩
  | 111 => ⟨S8x1024x768, .f32⟩
  | 112 => ⟨S_, .f32⟩
  | 113 => ⟨S8, .f32⟩
  | 114 => ⟨S8x1x1, .f32⟩
  | 115 => ⟨S_, .f32⟩
  | 116 => ⟨S8x1x1, .f32⟩
  | 117 => ⟨S8x1x1, .f32⟩
  | 118 => ⟨S_, .f32⟩
  | 119 => ⟨S8x1x1, .f32⟩
  | 120 => ⟨S8x1x1, .f32⟩
  | 121 => ⟨S_, .f32⟩
  | 122 => ⟨S8x1x1, .f32⟩
  | 123 => ⟨S8x1x1, .f32⟩
  | 124 => ⟨S8x1024x768, .f32⟩
  | 125 => ⟨S8x1024x768, .f32⟩
  | 126 => ⟨S8x1024x768, .f32⟩
  | 127 => ⟨S_, .f32⟩
  | _ => ⟨S1x2048x768, .f32⟩

abbrev hbmTy0_1 (i : Nat) : BufTy := match i % 128 with
  | 0 => ⟨S_, .f32⟩
  | 1 => ⟨S_, .f32⟩
  | 2 => ⟨S8x1024x768, .f32⟩
  | 3 => ⟨S8x1024x768, .f32⟩
  | 4 => ⟨S_, .f32⟩
  | 5 => ⟨S8x1024x768, .f32⟩
  | 6 => ⟨S8x1024x768, .f32⟩
  | 7 => ⟨S8x1024x768, .f32⟩
  | 8 => ⟨S8x1024x768, .f32⟩
  | 9 => ⟨S8x1024x768, .f32⟩
  | 10 => ⟨S8x1024x768, .f32⟩
  | 11 => ⟨S8x768x512, .f32⟩
  | 12 => ⟨S_, .f32⟩
  | 13 => ⟨S8, .f32⟩
  | 14 => ⟨S8x1x1, .f32⟩
  | 15 => ⟨S_, .f32⟩
  | 16 => ⟨S8x1x1, .f32⟩
  | 17 => ⟨S8x1x1, .f32⟩
  | 18 => ⟨S_, .f32⟩
  | 19 => ⟨S8x1x1, .f32⟩
  | 20 => ⟨S8x1x1, .f32⟩
  | 21 => ⟨S_, .f32⟩
  | 22 => ⟨S8x1x1, .f32⟩
  | 23 => ⟨S8x1x1, .f32⟩
  | 24 => ⟨S8x768x512, .f32⟩
  | 25 => ⟨S8x768x512, .f32⟩
  | 26 => ⟨S8x768x512, .f32⟩
  | 27 => ⟨S_, .f32⟩
  | 28 => ⟨S_, .f32⟩
  | 29 => ⟨S_, .f32⟩
  | 30 => ⟨S8x768x512, .f32⟩
  | 31 => ⟨S8x768x512, .f32⟩
  | 32 => ⟨S_, .f32⟩
  | 33 => ⟨S8x768x512, .f32⟩
  | 34 => ⟨S8x768x512, .f32⟩
  | 35 => ⟨S8x768x512, .f32⟩
  | 36 => ⟨S8x768x512, .f32⟩
  | 37 => ⟨S8x768x512, .f32⟩
  | 38 => ⟨S8x768x512, .f32⟩
  | 39 => ⟨S_, .f32⟩
  | 40 => ⟨S2048x768, .f32⟩
  | 41 => ⟨S1x1024x768, .f32⟩
  | 42 => ⟨S1024x768, .f32⟩
  | 43 => ⟨S768x1024, .f32⟩
  | 44 => ⟨S2048x1024, .f32⟩
  | 45 => ⟨S2048x512, .f32⟩
  | 46 => ⟨S2048x512, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x512, .f32⟩
  | 68 => ⟨S2048x512, .f32⟩
  | 69 => ⟨S2048x512, .f32⟩
  | 70 => ⟨S_, .f32⟩
  | 71 => ⟨S_, .f32⟩
  | 72 => ⟨S_, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S1x768x512, .f32⟩
  | 83 => ⟨S768x512, .f32⟩
  | 84 => ⟨S512x768, .f32⟩
  | 85 => ⟨S2048x768, .f32⟩
  | 86 => ⟨S2048x1, .f32⟩
  | 87 => ⟨S2048x768, .f32⟩
  | 88 => ⟨S2048x768, .f32⟩
  | 89 => ⟨S2048x768, .f32⟩
  | 90 => ⟨S1x1024x768, .f32⟩
  | 91 => ⟨S1024x768, .f32⟩
  | 92 => ⟨S768x1024, .f32⟩
  | 93 => ⟨S2048x1024, .f32⟩
  | 94 => ⟨S2048x512, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048x1, .f32⟩
  | 115 => ⟨S2048x1, .f32⟩
  | 116 => ⟨S2048x512, .f32⟩
  | 117 => ⟨S2048x512, .f32⟩
  | 118 => ⟨S2048x512, .f32⟩
  | 119 => ⟨S_, .f32⟩
  | 120 => ⟨S_, .f32⟩
  | 121 => ⟨S_, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S2048x512, .f32⟩
  | _ => ⟨S1x2048x768, .f32⟩

abbrev hbmTy0_2 (i : Nat) : BufTy := match i % 128 with
  | 0 => ⟨S2048x512, .f32⟩
  | 1 => ⟨S2048x512, .f32⟩
  | 2 => ⟨S2048x512, .f32⟩
  | 3 => ⟨S1x768x512, .f32⟩
  | 4 => ⟨S768x512, .f32⟩
  | 5 => ⟨S512x768, .f32⟩
  | 6 => ⟨S2048x768, .f32⟩
  | 7 => ⟨S2048x1, .f32⟩
  | 8 => ⟨S2048x768, .f32⟩
  | 9 => ⟨S2048x768, .f32⟩
  | 10 => ⟨S2048x768, .f32⟩
  | 11 => ⟨S1x1024x768, .f32⟩
  | 12 => ⟨S1024x768, .f32⟩
  | 13 => ⟨S768x1024, .f32⟩
  | 14 => ⟨S2048x1024, .f32⟩
  | 15 => ⟨S2048x512, .f32⟩
  | 16 => ⟨S2048x512, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x512, .f32⟩
  | 38 => ⟨S2048x512, .f32⟩
  | 39 => ⟨S2048x512, .f32⟩
  | 40 => ⟨S_, .f32⟩
  | 41 => ⟨S_, .f32⟩
  | 42 => ⟨S_, .f32⟩
  | 43 => ⟨S2048x512, .f32⟩
  | 44 => ⟨S2048x512, .f32⟩
  | 45 => ⟨S_, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S2048x512, .f32⟩
  | 52 => ⟨S1x768x512, .f32⟩
  | 53 => ⟨S768x512, .f32⟩
  | 54 => ⟨S512x768, .f32⟩
  | 55 => ⟨S2048x768, .f32⟩
  | 56 => ⟨S2048x1, .f32⟩
  | 57 => ⟨S2048x768, .f32⟩
  | 58 => ⟨S2048x768, .f32⟩
  | 59 => ⟨S2048x768, .f32⟩
  | 60 => ⟨S1x1024x768, .f32⟩
  | 61 => ⟨S1024x768, .f32⟩
  | 62 => ⟨S768x1024, .f32⟩
  | 63 => ⟨S2048x1024, .f32⟩
  | 64 => ⟨S2048x512, .f32⟩
  | 65 => ⟨S2048x512, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S_, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S_, .f32⟩
  | 78 => ⟨S2048, .f32⟩
  | 79 => ⟨S2048x1, .f32⟩
  | 80 => ⟨S_, .f32⟩
  | 81 => ⟨S2048x1, .f32⟩
  | 82 => ⟨S2048x1, .f32⟩
  | 83 => ⟨S_, .f32⟩
  | 84 => ⟨S2048x1, .f32⟩
  | 85 => ⟨S2048x1, .f32⟩
  | 86 => ⟨S2048x512, .f32⟩
  | 87 => ⟨S2048x512, .f32⟩
  | 88 => ⟨S2048x512, .f32⟩
  | 89 => ⟨S_, .f32⟩
  | 90 => ⟨S_, .f32⟩
  | 91 => ⟨S_, .f32⟩
  | 92 => ⟨S2048x512, .f32⟩
  | 93 => ⟨S2048x512, .f32⟩
  | 94 => ⟨S_, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S1x768x512, .f32⟩
  | 102 => ⟨S768x512, .f32⟩
  | 103 => ⟨S512x768, .f32⟩
  | 104 => ⟨S2048x768, .f32⟩
  | 105 => ⟨S2048x1, .f32⟩
  | 106 => ⟨S2048x768, .f32⟩
  | 107 => ⟨S2048x768, .f32⟩
  | 108 => ⟨S2048x768, .f32⟩
  | 109 => ⟨S1x1024x768, .f32⟩
  | 110 => ⟨S1024x768, .f32⟩
  | 111 => ⟨S768x1024, .f32⟩
  | 112 => ⟨S2048x1024, .f32⟩
  | 113 => ⟨S2048x512, .f32⟩
  | 114 => ⟨S2048x512, .f32⟩
  | 115 => ⟨S2048x512, .f32⟩
  | 116 => ⟨S2048x512, .f32⟩
  | 117 => ⟨S_, .f32⟩
  | 118 => ⟨S2048x512, .f32⟩
  | 119 => ⟨S2048x512, .f32⟩
  | 120 => ⟨S_, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S_, .f32⟩
  | 127 => ⟨S2048, .f32⟩
  | _ => ⟨S1x2048x768, .f32⟩

abbrev hbmTy0_3 (i : Nat) : BufTy := match i % 128 with
  | 0 => ⟨S2048x1, .f32⟩
  | 1 => ⟨S_, .f32⟩
  | 2 => ⟨S2048x1, .f32⟩
  | 3 => ⟨S2048x1, .f32⟩
  | 4 => ⟨S_, .f32⟩
  | 5 => ⟨S2048x1, .f32⟩
  | 6 => ⟨S2048x1, .f32⟩
  | 7 => ⟨S2048x512, .f32⟩
  | 8 => ⟨S2048x512, .f32⟩
  | 9 => ⟨S2048x512, .f32⟩
  | 10 => ⟨S_, .f32⟩
  | 11 => ⟨S_, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S1x768x512, .f32⟩
  | 23 => ⟨S768x512, .f32⟩
  | 24 => ⟨S512x768, .f32⟩
  | 25 => ⟨S2048x768, .f32⟩
  | 26 => ⟨S2048x1, .f32⟩
  | 27 => ⟨S2048x768, .f32⟩
  | 28 => ⟨S2048x768, .f32⟩
  | 29 => ⟨S2048x768, .f32⟩
  | 30 => ⟨S1x1024x768, .f32⟩
  | 31 => ⟨S1024x768, .f32⟩
  | 32 => ⟨S768x1024, .f32⟩
  | 33 => ⟨S2048x1024, .f32⟩
  | 34 => ⟨S2048x512, .f32⟩
  | 35 => ⟨S2048x512, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x512, .f32⟩
  | 57 => ⟨S2048x512, .f32⟩
  | 58 => ⟨S2048x512, .f32⟩
  | 59 => ⟨S_, .f32⟩
  | 60 => ⟨S_, .f32⟩
  | 61 => ⟨S_, .f32⟩
  | 62 => ⟨S2048x512, .f32⟩
  | 63 => ⟨S2048x512, .f32⟩
  | 64 => ⟨S_, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S1x768x512, .f32⟩
  | 72 => ⟨S768x512, .f32⟩
  | 73 => ⟨S512x768, .f32⟩
  | 74 => ⟨S2048x768, .f32⟩
  | 75 => ⟨S2048x1, .f32⟩
  | 76 => ⟨S2048x768, .f32⟩
  | 77 => ⟨S2048x768, .f32⟩
  | 78 => ⟨S2048x768, .f32⟩
  | 79 => ⟨S1x1024x768, .f32⟩
  | 80 => ⟨S1024x768, .f32⟩
  | 81 => ⟨S768x1024, .f32⟩
  | 82 => ⟨S2048x1024, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048x1, .f32⟩
  | 104 => ⟨S2048x1, .f32⟩
  | 105 => ⟨S2048x512, .f32⟩
  | 106 => ⟨S2048x512, .f32⟩
  | 107 => ⟨S2048x512, .f32⟩
  | 108 => ⟨S_, .f32⟩
  | 109 => ⟨S_, .f32⟩
  | 110 => ⟨S_, .f32⟩
  | 111 => ⟨S2048x512, .f32⟩
  | 112 => ⟨S2048x512, .f32⟩
  | 113 => ⟨S_, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S1x768x512, .f32⟩
  | 121 => ⟨S768x512, .f32⟩
  | 122 => ⟨S512x768, .f32⟩
  | 123 => ⟨S2048x768, .f32⟩
  | 124 => ⟨S2048x1, .f32⟩
  | 125 => ⟨S2048x768, .f32⟩
  | 126 => ⟨S2048x768, .f32⟩
  | 127 => ⟨S2048x768, .f32⟩
  | _ => ⟨S1x2048x768, .f32⟩

abbrev hbmTy0_4 (i : Nat) : BufTy := match i % 128 with
  | 0 => ⟨S1x1024x768, .f32⟩
  | 1 => ⟨S1024x768, .f32⟩
  | 2 => ⟨S768x1024, .f32⟩
  | 3 => ⟨S2048x1024, .f32⟩
  | 4 => ⟨S2048x512, .f32⟩
  | 5 => ⟨S2048x512, .f32⟩
  | 6 => ⟨S2048x512, .f32⟩
  | 7 => ⟨S2048x512, .f32⟩
  | 8 => ⟨S_, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x512, .f32⟩
  | 27 => ⟨S2048x512, .f32⟩
  | 28 => ⟨S2048x512, .f32⟩
  | 29 => ⟨S_, .f32⟩
  | 30 => ⟨S_, .f32⟩
  | 31 => ⟨S_, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S1x768x512, .f32⟩
  | 42 => ⟨S768x512, .f32⟩
  | 43 => ⟨S512x768, .f32⟩
  | 44 => ⟨S2048x768, .f32⟩
  | 45 => ⟨S2048x1, .f32⟩
  | 46 => ⟨S2048x768, .f32⟩
  | 47 => ⟨S2048x768, .f32⟩
  | 48 => ⟨S2048x768, .f32⟩
  | 49 => ⟨S1x2048x768, .f32⟩
  | 50 => ⟨S1x1x768, .f32⟩
  | 51 => ⟨S1x2048x768, .f32⟩
  | 52 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_cst_19 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_20 : Ref sig .tc := ⟨.hbm, 99, rfl⟩
abbrev main_cst_21 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_22 : Ref sig .tc := ⟨.hbm, 112, rfl⟩
abbrev main_v71 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_v74 : Ref sig .tc := ⟨.hbm, 117, rfl⟩
abbrev main_cst_24 : Ref sig .tc := ⟨.hbm, 118, rfl⟩
abbrev main_v75 : Ref sig .tc := ⟨.hbm, 119, rfl⟩
abbrev main_v76 : Ref sig .tc := ⟨.hbm, 120, rfl⟩
abbrev main_cst_25 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_26 : Ref sig .tc := ⟨.hbm, 127, rfl⟩
abbrev main_cst_27 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_28 : Ref sig .tc := ⟨.hbm, 140, rfl⟩
abbrev main_v88 : Ref sig .tc := ⟨.hbm, 141, rfl⟩
abbrev main_v89 : Ref sig .tc := ⟨.hbm, 142, rfl⟩
abbrev main_cst_29 : Ref sig .tc := ⟨.hbm, 143, rfl⟩
abbrev main_v90 : Ref sig .tc := ⟨.hbm, 144, rfl⟩
abbrev main_v91 : Ref sig .tc := ⟨.hbm, 145, rfl⟩
abbrev main_cst_30 : Ref sig .tc := ⟨.hbm, 146, rfl⟩
abbrev main_v92 : Ref sig .tc := ⟨.hbm, 147, rfl⟩
abbrev main_v93 : Ref sig .tc := ⟨.hbm, 148, rfl⟩
abbrev main_cst_31 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_32 : Ref sig .tc := ⟨.hbm, 155, rfl⟩
abbrev main_cst_33 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_34 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_35 : Ref sig .tc := ⟨.hbm, 186, rfl⟩
abbrev main_v114 : Ref sig .tc := ⟨.hbm, 187, rfl⟩
abbrev main_v115 : Ref sig .tc := ⟨.hbm, 188, rfl⟩
abbrev main_cst_36 : Ref sig .tc := ⟨.hbm, 189, rfl⟩
abbrev main_v116 : Ref sig .tc := ⟨.hbm, 190, rfl⟩
abbrev main_v117 : Ref sig .tc := ⟨.hbm, 191, rfl⟩
abbrev main_cst_37 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_38 : Ref sig .tc := ⟨.hbm, 198, rfl⟩
abbrev main_cst_39 : Ref sig .tc := ⟨.hbm, 199, rfl⟩
abbrev main_call9_v0 : Ref sig .tc := ⟨.hbm, 200, rfl⟩
abbrev main_call9_v1 : Ref sig .tc := ⟨.hbm, 201, rfl⟩
abbrev main_call9_v2 : Ref sig .tc := ⟨.hbm, 202, rfl⟩
abbrev main_call9_v3 : Ref sig .tc := ⟨.hbm, 203, rfl⟩
abbrev main_call9_v4 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_call10_v0 : Ref sig .tc := ⟨.hbm, 224, rfl⟩
abbrev main_call10_v1 : Ref sig .tc := ⟨.hbm, 225, rfl⟩
abbrev main_call10_cst : Ref sig .tc := ⟨.hbm, 226, rfl⟩
abbrev main_call10_v2 : Ref sig .tc := ⟨.hbm, 227, rfl⟩
abbrev main_call10_v3 : Ref sig .tc := ⟨.hbm, 228, rfl⟩
abbrev main_call10_cst_0 : Ref sig .tc := ⟨.hbm, 229, rfl⟩
abbrev main_call10_v4 : Ref sig .tc := ⟨.hbm, 230, rfl⟩
abbrev main_call10_v5 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_cst_40 : Ref sig .tc := ⟨.hbm, 235, rfl⟩
abbrev main_v145 : Ref sig .tc := ⟨.hbm, 236, rfl⟩
abbrev main_v146 : Ref sig .tc := ⟨.hbm, 237, rfl⟩
abbrev main_cst_41 : Ref sig .tc := ⟨.hbm, 238, rfl⟩
abbrev main_v147 : Ref sig .tc := ⟨.hbm, 239, rfl⟩
abbrev main_v148 : Ref sig .tc := ⟨.hbm, 240, rfl⟩
abbrev main_cst_42 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_cst_43 : Ref sig .tc := ⟨.hbm, 247, rfl⟩
abbrev main_cst_44 : Ref sig .tc := ⟨.hbm, 248, rfl⟩
abbrev main_call12_v0 : Ref sig .tc := ⟨.hbm, 249, rfl⟩
abbrev main_call12_v1 : Ref sig .tc := ⟨.hbm, 250, rfl⟩
abbrev main_call12_v2 : Ref sig .tc := ⟨.hbm, 251, rfl⟩
abbrev main_call12_v3 : Ref sig .tc := ⟨.hbm, 252, rfl⟩
abbrev main_call12_v4 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_call13_v0 : Ref sig .tc := ⟨.hbm, 273, rfl⟩
abbrev main_call13_v1 : Ref sig .tc := ⟨.hbm, 274, rfl⟩
abbrev main_call13_cst : Ref sig .tc := ⟨.hbm, 275, rfl⟩
abbrev main_call13_v2 : Ref sig .tc := ⟨.hbm, 276, rfl⟩
abbrev main_call13_v3 : Ref sig .tc := ⟨.hbm, 277, rfl⟩
abbrev main_call13_cst_0 : Ref sig .tc := ⟨.hbm, 278, rfl⟩
abbrev main_call13_v4 : Ref sig .tc := ⟨.hbm, 279, rfl⟩
abbrev main_call13_v5 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_cst_45 : Ref sig .tc := ⟨.hbm, 284, rfl⟩
abbrev main_v176 : Ref sig .tc := ⟨.hbm, 285, rfl⟩
abbrev main_v177 : Ref sig .tc := ⟨.hbm, 286, rfl⟩
abbrev main_cst_46 : Ref sig .tc := ⟨.hbm, 287, rfl⟩
abbrev main_v178 : Ref sig .tc := ⟨.hbm, 288, rfl⟩
abbrev main_v179 : Ref sig .tc := ⟨.hbm, 289, rfl⟩
abbrev main_cst_47 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_cst_48 : Ref sig .tc := ⟨.hbm, 296, rfl⟩
abbrev main_cst_49 : Ref sig .tc := ⟨.hbm, 297, rfl⟩
abbrev main_call15_v0 : Ref sig .tc := ⟨.hbm, 298, rfl⟩
abbrev main_call15_v1 : Ref sig .tc := ⟨.hbm, 299, rfl⟩
abbrev main_call15_v2 : Ref sig .tc := ⟨.hbm, 300, rfl⟩
abbrev main_call15_v3 : Ref sig .tc := ⟨.hbm, 301, rfl⟩
abbrev main_call15_v4 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_call16_v0 : Ref sig .tc := ⟨.hbm, 322, rfl⟩
abbrev main_call16_v1 : Ref sig .tc := ⟨.hbm, 323, rfl⟩
abbrev main_call16_cst : Ref sig .tc := ⟨.hbm, 324, rfl⟩
abbrev main_call16_v2 : Ref sig .tc := ⟨.hbm, 325, rfl⟩
abbrev main_call16_v3 : Ref sig .tc := ⟨.hbm, 326, rfl⟩
abbrev main_call16_cst_0 : Ref sig .tc := ⟨.hbm, 327, rfl⟩
abbrev main_call16_v4 : Ref sig .tc := ⟨.hbm, 328, rfl⟩
abbrev main_call16_v5 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_cst_50 : Ref sig .tc := ⟨.hbm, 333, rfl⟩
abbrev main_v207 : Ref sig .tc := ⟨.hbm, 334, rfl⟩
abbrev main_v208 : Ref sig .tc := ⟨.hbm, 335, rfl⟩
abbrev main_cst_51 : Ref sig .tc := ⟨.hbm, 336, rfl⟩
abbrev main_v209 : Ref sig .tc := ⟨.hbm, 337, rfl⟩
abbrev main_v210 : Ref sig .tc := ⟨.hbm, 338, rfl⟩
abbrev main_cst_52 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_cst_53 : Ref sig .tc := ⟨.hbm, 345, rfl⟩
abbrev main_cst_54 : Ref sig .tc := ⟨.hbm, 346, rfl⟩
abbrev main_call18_v0 : Ref sig .tc := ⟨.hbm, 347, rfl⟩
abbrev main_call18_v1 : Ref sig .tc := ⟨.hbm, 348, rfl⟩
abbrev main_call18_v2 : Ref sig .tc := ⟨.hbm, 349, rfl⟩
abbrev main_call18_v3 : Ref sig .tc := ⟨.hbm, 350, rfl⟩
abbrev main_call18_v4 : Ref sig .tc := ⟨.hbm, 351, rfl⟩
abbrev main_v216 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_v220 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_v224 : Ref sig .tc := ⟨.hbm, 360, rfl⟩
abbrev main_v225 : Ref sig .tc := ⟨.hbm, 361, rfl⟩
abbrev main_v226 : Ref sig .tc := ⟨.hbm, 362, rfl⟩
abbrev main_v227 : Ref sig .tc := ⟨.hbm, 363, rfl⟩
abbrev main_v228 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_call19_v0 : Ref sig .tc := ⟨.hbm, 371, rfl⟩
abbrev main_call19_v1 : Ref sig .tc := ⟨.hbm, 372, rfl⟩
abbrev main_call19_cst : Ref sig .tc := ⟨.hbm, 373, rfl⟩
abbrev main_call19_v2 : Ref sig .tc := ⟨.hbm, 374, rfl⟩
abbrev main_call19_v3 : Ref sig .tc := ⟨.hbm, 375, rfl⟩
abbrev main_call19_cst_0 : Ref sig .tc := ⟨.hbm, 376, rfl⟩
abbrev main_call19_v4 : Ref sig .tc := ⟨.hbm, 377, rfl⟩
abbrev main_call19_v5 : Ref sig .tc := ⟨.hbm, 378, rfl⟩
abbrev main_v235 : Ref sig .tc := ⟨.hbm, 379, rfl⟩
abbrev main_v236 : Ref sig .tc := ⟨.hbm, 380, rfl⟩
abbrev main_v237 : Ref sig .tc := ⟨.hbm, 381, rfl⟩
abbrev main_cst_55 : Ref sig .tc := ⟨.hbm, 382, rfl⟩
abbrev main_v238 : Ref sig .tc := ⟨.hbm, 383, rfl⟩
abbrev main_v239 : Ref sig .tc := ⟨.hbm, 384, rfl⟩
abbrev main_cst_56 : Ref sig .tc := ⟨.hbm, 385, rfl⟩
abbrev main_v240 : Ref sig .tc := ⟨.hbm, 386, rfl⟩
abbrev main_v241 : Ref sig .tc := ⟨.hbm, 387, rfl⟩
abbrev main_cst_57 : Ref sig .tc := ⟨.hbm, 388, rfl⟩
abbrev main_v242 : Ref sig .tc := ⟨.hbm, 389, rfl⟩
abbrev main_v243 : Ref sig .tc := ⟨.hbm, 390, rfl⟩
abbrev main_v244 : Ref sig .tc := ⟨.hbm, 391, rfl⟩
abbrev main_v245 : Ref sig .tc := ⟨.hbm, 392, rfl⟩
abbrev main_v246 : Ref sig .tc := ⟨.hbm, 393, rfl⟩
abbrev main_cst_58 : Ref sig .tc := ⟨.hbm, 394, rfl⟩
abbrev main_cst_59 : Ref sig .tc := ⟨.hbm, 395, rfl⟩
abbrev main_call21_v0 : Ref sig .tc := ⟨.hbm, 396, rfl⟩
abbrev main_call21_v1 : Ref sig .tc := ⟨.hbm, 397, rfl⟩
abbrev main_call21_v2 : Ref sig .tc := ⟨.hbm, 398, rfl⟩
abbrev main_call21_v3 : Ref sig .tc := ⟨.hbm, 399, rfl⟩
abbrev main_call21_v4 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_v252 : Ref sig .tc := ⟨.hbm, 406, rfl⟩
abbrev main_v253 : Ref sig .tc := ⟨.hbm, 407, rfl⟩
abbrev main_v254 : Ref sig .tc := ⟨.hbm, 408, rfl⟩
abbrev main_v255 : Ref sig .tc := ⟨.hbm, 409, rfl⟩
abbrev main_v256 : Ref sig .tc := ⟨.hbm, 410, rfl⟩
abbrev main_v257 : Ref sig .tc := ⟨.hbm, 411, rfl⟩
abbrev main_v258 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_v262 : Ref sig .tc := ⟨.hbm, 416, rfl⟩
abbrev main_v263 : Ref sig .tc := ⟨.hbm, 417, rfl⟩
abbrev main_v264 : Ref sig .tc := ⟨.hbm, 418, rfl⟩
abbrev main_v265 : Ref sig .tc := ⟨.hbm, 419, rfl⟩
abbrev main_call22_v0 : Ref sig .tc := ⟨.hbm, 420, rfl⟩
abbrev main_call22_v1 : Ref sig .tc := ⟨.hbm, 421, rfl⟩
abbrev main_call22_cst : Ref sig .tc := ⟨.hbm, 422, rfl⟩
abbrev main_call22_v2 : Ref sig .tc := ⟨.hbm, 423, rfl⟩
abbrev main_call22_v3 : Ref sig .tc := ⟨.hbm, 424, rfl⟩
abbrev main_call22_cst_0 : Ref sig .tc := ⟨.hbm, 425, rfl⟩
abbrev main_call22_v4 : Ref sig .tc := ⟨.hbm, 426, rfl⟩
abbrev main_call22_v5 : Ref sig .tc := ⟨.hbm, 427, rfl⟩
abbrev main_v266 : Ref sig .tc := ⟨.hbm, 428, rfl⟩
abbrev main_v267 : Ref sig .tc := ⟨.hbm, 429, rfl⟩
abbrev main_v268 : Ref sig .tc := ⟨.hbm, 430, rfl⟩
abbrev main_cst_60 : Ref sig .tc := ⟨.hbm, 431, rfl⟩
abbrev main_v269 : Ref sig .tc := ⟨.hbm, 432, rfl⟩
abbrev main_v270 : Ref sig .tc := ⟨.hbm, 433, rfl⟩
abbrev main_cst_61 : Ref sig .tc := ⟨.hbm, 434, rfl⟩
abbrev main_v271 : Ref sig .tc := ⟨.hbm, 435, rfl⟩
abbrev main_v272 : Ref sig .tc := ⟨.hbm, 436, rfl⟩
abbrev main_cst_62 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_cst_63 : Ref sig .tc := ⟨.hbm, 443, rfl⟩
abbrev main_cst_64 : Ref sig .tc := ⟨.hbm, 444, rfl⟩
abbrev main_call24_v0 : Ref sig .tc := ⟨.hbm, 445, rfl⟩
abbrev main_call24_v1 : Ref sig .tc := ⟨.hbm, 446, rfl⟩
abbrev main_call24_v2 : Ref sig .tc := ⟨.hbm, 447, rfl⟩
abbrev main_call24_v3 : Ref sig .tc := ⟨.hbm, 448, rfl⟩
abbrev main_call24_v4 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_v293 : Ref sig .tc := ⟨.hbm, 465, rfl⟩
abbrev main_v294 : Ref sig .tc := ⟨.hbm, 466, rfl⟩
abbrev main_v295 : Ref sig .tc := ⟨.hbm, 467, rfl⟩
abbrev main_v296 : Ref sig .tc := ⟨.hbm, 468, rfl⟩
abbrev main_call25_v0 : Ref sig .tc := ⟨.hbm, 469, rfl⟩
abbrev main_call25_v1 : Ref sig .tc := ⟨.hbm, 470, rfl⟩
abbrev main_call25_cst : Ref sig .tc := ⟨.hbm, 471, rfl⟩
abbrev main_call25_v2 : Ref sig .tc := ⟨.hbm, 472, rfl⟩
abbrev main_call25_v3 : Ref sig .tc := ⟨.hbm, 473, rfl⟩
abbrev main_call25_cst_0 : Ref sig .tc := ⟨.hbm, 474, rfl⟩
abbrev main_call25_v4 : Ref sig .tc := ⟨.hbm, 475, rfl⟩
abbrev main_call25_v5 : Ref sig .tc := ⟨.hbm, 476, rfl⟩
abbrev main_v297 : Ref sig .tc := ⟨.hbm, 477, rfl⟩
abbrev main_v298 : Ref sig .tc := ⟨.hbm, 478, rfl⟩
abbrev main_v299 : Ref sig .tc := ⟨.hbm, 479, rfl⟩
abbrev main_cst_65 : Ref sig .tc := ⟨.hbm, 480, rfl⟩
abbrev main_v300 : Ref sig .tc := ⟨.hbm, 481, rfl⟩
abbrev main_v301 : Ref sig .tc := ⟨.hbm, 482, rfl⟩
abbrev main_cst_66 : Ref sig .tc := ⟨.hbm, 483, rfl⟩
abbrev main_v302 : Ref sig .tc := ⟨.hbm, 484, rfl⟩
abbrev main_v303 : Ref sig .tc := ⟨.hbm, 485, rfl⟩
abbrev main_cst_67 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_cst_68 : Ref sig .tc := ⟨.hbm, 492, rfl⟩
abbrev main_cst_69 : Ref sig .tc := ⟨.hbm, 493, rfl⟩
abbrev main_call27_v0 : Ref sig .tc := ⟨.hbm, 494, rfl⟩
abbrev main_call27_v1 : Ref sig .tc := ⟨.hbm, 495, rfl⟩
abbrev main_call27_v2 : Ref sig .tc := ⟨.hbm, 496, rfl⟩
abbrev main_call27_v3 : Ref sig .tc := ⟨.hbm, 497, rfl⟩
abbrev main_call27_v4 : Ref sig .tc := ⟨.hbm, 498, rfl⟩
abbrev main_v309 : Ref sig .tc := ⟨.hbm, 499, rfl⟩
abbrev main_v310 : Ref sig .tc := ⟨.hbm, 500, rfl⟩
abbrev main_v311 : Ref sig .tc := ⟨.hbm, 501, rfl⟩
abbrev main_v312 : Ref sig .tc := ⟨.hbm, 502, rfl⟩
abbrev main_v313 : Ref sig .tc := ⟨.hbm, 503, rfl⟩
abbrev main_v314 : Ref sig .tc := ⟨.hbm, 504, rfl⟩
abbrev main_v315 : Ref sig .tc := ⟨.hbm, 505, rfl⟩
abbrev main_v316 : Ref sig .tc := ⟨.hbm, 506, rfl⟩
abbrev main_v317 : Ref sig .tc := ⟨.hbm, 507, rfl⟩
abbrev main_v318 : Ref sig .tc := ⟨.hbm, 508, rfl⟩
abbrev main_v319 : Ref sig .tc := ⟨.hbm, 509, rfl⟩
abbrev main_v320 : Ref sig .tc := ⟨.hbm, 510, rfl⟩
abbrev main_v321 : Ref sig .tc := ⟨.hbm, 511, rfl⟩
abbrev main_v322 : Ref sig .tc := ⟨.hbm, 512, rfl⟩
abbrev main_v323 : Ref sig .tc := ⟨.hbm, 513, rfl⟩
abbrev main_v324 : Ref sig .tc := ⟨.hbm, 514, rfl⟩
abbrev main_v325 : Ref sig .tc := ⟨.hbm, 515, rfl⟩
abbrev main_v326 : Ref sig .tc := ⟨.hbm, 516, rfl⟩
abbrev main_v327 : Ref sig .tc := ⟨.hbm, 517, rfl⟩
abbrev main_call28_v0 : Ref sig .tc := ⟨.hbm, 518, rfl⟩
abbrev main_call28_v1 : Ref sig .tc := ⟨.hbm, 519, rfl⟩
abbrev main_call28_cst : Ref sig .tc := ⟨.hbm, 520, rfl⟩
abbrev main_call28_v2 : Ref sig .tc := ⟨.hbm, 521, rfl⟩
abbrev main_call28_v3 : Ref sig .tc := ⟨.hbm, 522, rfl⟩
abbrev main_call28_cst_0 : Ref sig .tc := ⟨.hbm, 523, rfl⟩
abbrev main_call28_v4 : Ref sig .tc := ⟨.hbm, 524, rfl⟩
abbrev main_call28_v5 : Ref sig .tc := ⟨.hbm, 525, rfl⟩
abbrev main_v328 : Ref sig .tc := ⟨.hbm, 526, rfl⟩
abbrev main_v329 : Ref sig .tc := ⟨.hbm, 527, rfl⟩
abbrev main_v330 : Ref sig .tc := ⟨.hbm, 528, rfl⟩
abbrev main_cst_70 : Ref sig .tc := ⟨.hbm, 529, rfl⟩
abbrev main_v331 : Ref sig .tc := ⟨.hbm, 530, rfl⟩
abbrev main_v332 : Ref sig .tc := ⟨.hbm, 531, rfl⟩
abbrev main_cst_71 : Ref sig .tc := ⟨.hbm, 532, rfl⟩
abbrev main_v333 : Ref sig .tc := ⟨.hbm, 533, rfl⟩
abbrev main_v334 : Ref sig .tc := ⟨.hbm, 534, rfl⟩
abbrev main_cst_72 : Ref sig .tc := ⟨.hbm, 535, rfl⟩
abbrev main_v335 : Ref sig .tc := ⟨.hbm, 536, rfl⟩
abbrev main_v336 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_cst_73 : Ref sig .tc := ⟨.hbm, 541, rfl⟩
abbrev main_cst_74 : Ref sig .tc := ⟨.hbm, 542, rfl⟩
abbrev main_call30_v0 : Ref sig .tc := ⟨.hbm, 543, rfl⟩
abbrev main_call30_v1 : Ref sig .tc := ⟨.hbm, 544, rfl⟩
abbrev main_call30_v2 : Ref sig .tc := ⟨.hbm, 545, rfl⟩
abbrev main_call30_v3 : Ref sig .tc := ⟨.hbm, 546, rfl⟩
abbrev main_call30_v4 : Ref sig .tc := ⟨.hbm, 547, rfl⟩
abbrev main_v340 : Ref sig .tc := ⟨.hbm, 548, rfl⟩
abbrev main_v341 : Ref sig .tc := ⟨.hbm, 549, rfl⟩
abbrev main_v342 : Ref sig .tc := ⟨.hbm, 550, rfl⟩
abbrev main_v343 : Ref sig .tc := ⟨.hbm, 551, rfl⟩
abbrev main_v344 : Ref sig .tc := ⟨.hbm, 552, rfl⟩
abbrev main_v345 : Ref sig .tc := ⟨.hbm, 553, rfl⟩
abbrev main_v346 : Ref sig .tc := ⟨.hbm, 554, rfl⟩
abbrev main_v347 : Ref sig .tc := ⟨.hbm, 555, rfl⟩
abbrev main_v348 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_v352 : Ref sig .tc := ⟨.hbm, 560, rfl⟩
abbrev main_v353 : Ref sig .tc := ⟨.hbm, 561, rfl⟩
abbrev main_v354 : Ref sig .tc := ⟨.hbm, 562, rfl⟩
abbrev main_v355 : Ref sig .tc := ⟨.hbm, 563, rfl⟩
abbrev main_v356 : Ref sig .tc := ⟨.hbm, 564, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton
public import Idealize.ShloMosaic.Lib.ValueIdx
public import Idealize.ShloMosaic.Lib.Writes

@[expose] public section

set_option maxRecDepth 16384

noncomputable section

/-! What one grid point of the expert kernel computes, as functions of the blocks it reads: the two halves of the
rows are handled one after the other, and the first point prepares the router's arrays. -/

namespace Cert.Moe

open Cert.KernelIdeal Cert.KernelIdeal.Gen
open Idealize.ShloMosaic Idealize.ShloMosaic.TcCoe Idealize.ShloMosaic.Tactic Idealize.ShloMosaic.ValueIdx

variable {F : FTy → Type} [FloatOps F]

/-- The rectangle of the first 1024 rows of a 2048 x 768 array, -/
abbrev topRect : Rect S2048x768 := Rect.unit (s := S2048x768) ![0, 0] S1024x768.size inb_S2048x768_S1024x768_0_0
/-- of the last 1024 rows, -/
abbrev botRect : Rect S2048x768 := Rect.unit (s := S2048x768) ![1024, 0] S1024x768.size inb_S2048x768_S1024x768_1024_0
/-- and the same two rectangles of the gates' array. -/
abbrev topRect8 : Rect S2048x8 := Rect.unit (s := S2048x8) ![0, 0] S1024x8.size inb_S2048x8_S1024x8_0_0
abbrev botRect8 : Rect S2048x8 := Rect.unit (s := S2048x8) ![1024, 0] S1024x8.size inb_S2048x8_S1024x8_1024_0

/-- The first 1024 rows of an array, and the last 1024. -/
abbrev top (x : Vec F S2048x768 .f32) : Vec F S1024x768 .f32 := fun j => x (topRect.emb j)
abbrev bot (x : Vec F S2048x768 .f32) : Vec F S1024x768 .f32 := fun j => x (botRect.emb j)
abbrev top8 (x : Vec F S2048x8 .f32) : Vec F S1024x8 .f32 := fun j => x (topRect8.emb j)
abbrev bot8 (x : Vec F S2048x8 .f32) : Vec F S1024x8 .f32 := fun j => x (botRect8.emb j)

/-- Two arrays of 1024 rows, one above the other. -/
def stack (a b : Vec F S1024x768 .f32) : Vec F S2048x768 .f32 := fun y =>
  if h : (y 0).val < 1024 then a (ix2 ⟨(y 0).val, h⟩ (y 1))
  else b (ix2 ⟨(y 0).val - 1024, by have : (y 0).val < 2048 := (y 0).isLt; omega⟩ (y 1))

theorem stack_top (a b : Vec F S1024x768 .f32) (x : S1024x768.Idx) : stack a b (topRect.emb x) = a x := by
  have h0 : (topRect.emb x 0).val = 0 + 1 * (x 0).val := rfl
  have h1 : (topRect.emb x 1).val = 0 + 1 * (x 1).val := rfl
  have hx : (x 0).val < 1024 := (x 0).isLt
  unfold stack
  rw [dif_pos (by rw [h0]; omega)]
  congr 1; funext k
  match k with
  | ⟨0, _⟩ => exact Fin.ext (by show (topRect.emb x 0).val = _; rw [h0]; simp)
  | ⟨1, _⟩ => exact Fin.ext (by show (topRect.emb x 1).val = _; rw [h1]; simp)

theorem stack_bot (a b : Vec F S1024x768 .f32) (x : S1024x768.Idx) : stack a b (botRect.emb x) = b x := by
  have h0 : (botRect.emb x 0).val = 1024 + 1 * (x 0).val := rfl
  have h1 : (botRect.emb x 1).val = 0 + 1 * (x 1).val := rfl
  have hx : (x 0).val < 1024 := (x 0).isLt
  unfold stack
  rw [dif_neg (by rw [h0]; omega)]
  congr 1; funext k
  match k with
  | ⟨0, _⟩ => exact Fin.ext (by show (botRect.emb x 0).val - 1024 = _; rw [h0]; simp)
  | ⟨1, _⟩ => exact Fin.ext (by show (botRect.emb x 1).val = _; rw [h1]; simp)

/-- Every row is in one of the two halves. -/
theorem mem_halves (y : S2048x768.Idx) : (∃ x, topRect.emb x = y) ∨ (∃ x, botRect.emb x = y) := by
  have hy : (y 0).val < 2048 := (y 0).isLt
  by_cases h : (y 0).val < 1024
  · refine .inl ⟨ix2 ⟨(y 0).val, h⟩ (y 1), funext fun k => ?_⟩
    match k with
    | ⟨0, _⟩ => exact Fin.ext (by show 0 + 1 * (y 0).val = (y 0).val; omega)
    | ⟨1, _⟩ => exact Fin.ext (by show 0 + 1 * (y 1).val = (y 1).val; omega)
  · refine .inr ⟨ix2 ⟨(y 0).val - 1024, by omega⟩ (y 1), funext fun k => ?_⟩
    match k with
    | ⟨0, _⟩ => exact Fin.ext (by show 1024 + 1 * ((y 0).val - 1024) = (y 0).val; omega)
    | ⟨1, _⟩ => exact Fin.ext (by show 0 + 1 * (y 1).val = (y 1).val; omega)

/-- The word the body gets for grid point `i`. -/
abbrev pointWord (i : grid0.Coords) : BitVec 32 := BitVec.ofNat 32 (i 0).val

/-- The output's new first half after the point: the old one plus this expert's gated contribution, -/
def topOut (i : grid0.Coords) (wi : Vec F S1x1024x768 .f32) (wo : Vec F S1x768x512 .f32) (xq : Vec F S1024x768 .f32)
    (g : Vec F S1024x8 .f32) (o : Vec F S1024x768 .f32) : Vec F S1024x768 .f32 :=
  k0_pay22 (pointWord i) (k0_pay16 wi) (k0_pay18 wo) (k0_pay19 wo) (k0_pay20 (F := F)) xq g o

/-- and its new second half. -/
def botOut (i : grid0.Coords) (wi : Vec F S1x1024x768 .f32) (wo : Vec F S1x768x512 .f32) (xq : Vec F S1024x768 .f32)
    (g : Vec F S1024x8 .f32) (o : Vec F S1024x768 .f32) : Vec F S1024x768 .f32 :=
  k0_pay1 (pointWord i) (k0_pay16 wi) (k0_pay18 wo) (k0_pay21 (k0_pay19 wo) (k0_pay20 (F := F)))
    (iota .tc S1024x8 32 [1] iota_S1024x8_d1_w32) xq g o

/-- The output after the point. -/
def stepOut (i : grid0.Coords) (wi : Vec F S1x1024x768 .f32) (wo : Vec F S1x768x512 .f32) (xq : Vec F S2048x768 .f32)
    (g : Vec F S2048x8 .f32) (o : Vec F S2048x768 .f32) : Vec F S2048x768 .f32 :=
  stack (topOut i wi wo (top xq) (top8 g) (top o)) (botOut i wi wo (bot xq) (bot8 g) (bot o))

/-- What the first point prepares: the quantized rows, -/
def quantRows (x : Vec F S2048x768 .f32) : Vec F S2048x768 .f32 :=
  stack (k0_pay14 (k0_pay11 (top x)) (k0_pay12 (top x)) (k0_pay13 (F := F))) (k0_pay15 (bot x))

/-- the gates, -/
def gateRows (x : Vec F S2048x768 .f32) (wg : Vec F S768x8 .f32) : Vec F S2048x8 .f32 := k0_pay8 x wg

/-- the balancing loss, -/
def lossOf (x : Vec F S2048x768 .f32) (wg : Vec F S768x8 .f32) : Vec F S1x1 .f32 :=
  k0_pay9 (k0_pay2 x wg) (k0_pay3 x wg) (k0_pay4 x wg) (k0_pay7 x wg)

/-- and the output's starting rows: the bias in each. -/
def biasRows (b : Vec F S1x768 .f32) : Vec F S2048x768 .f32 := k0_pay10 b

section Reads

variable {Val : EltTy → Type} {κ : Kind} {sp : Space} {s : Shape} {e : EltTy}

/-- A load of a buffer that reads `G` is `G` at the load's indices. -/
theorem readAt_of_read (v : View sig κ sp s e) (f : v.ty.Contents Val) {G : s.Idx → Val e} (h : v.read Val f = G)
    (B : LoadRect s) : v.readAt Val B f = fun x => G (B.idx x) := by
  subst h; rfl

/-- A buffer whose last write filled the whole shape reads that write's payload. -/
theorem read_whole (v : View sig κ sp s e) (f : v.ty.Contents Val) (r : Rect s) (w : r.shape.Idx → Val e)
    (L : List (View.Piece Val s e)) (G : s.Idx → Val e) (hG : ∀ x, w x = G (r.emb x)) (hc : ∀ y, ∃ x, r.emb x = y) :
    v.read Val (v.writes Val f (⟨r, w⟩ :: L)) = G := by
  funext y
  obtain ⟨x, rfl⟩ := hc y
  rw [View.read_writes_cons_emb]; exact hG x

end Reads

/-- A buffer whose last two writes filled the two halves reads the two payloads, one above the other. -/
theorem read_halves {κ : Kind} {sp : Space} (v : View sig κ sp S2048x768 .f32) (f : v.ty.Contents (Elt F))
    (a b : Vec F S1024x768 .f32) (L : List (View.Piece (Elt F) S2048x768 .f32)) :
    v.read (Elt F) (v.writes (Elt F) f (⟨botRect, b⟩ :: ⟨topRect, a⟩ :: L)) = stack a b := by
  funext y
  rcases mem_halves y with ⟨x, rfl⟩ | ⟨x, rfl⟩
  · rw [View.read_writes_cons_miss_of_axis v f ⟨botRect, b⟩ _ _ 0 1024 1024 rfl rfl rfl
      (.inl (by show 0 + 1 * (x 0).val < 1024; have : (x 0).val < 1024 := (x 0).isLt; omega)), View.read_writes_cons_emb, stack_top]
  · rw [View.read_writes_cons_emb, stack_bot]

/-- The first half of such a buffer before the second is written, and the second half before that: each half reads as
the writes before left it. -/
theorem read_bot_of_top {κ : Kind} {sp : Space} (v : View sig κ sp S2048x768 .f32) (f : v.ty.Contents (Elt F))
    (a : Vec F S1024x768 .f32) (L : List (View.Piece (Elt F) S2048x768 .f32)) (x : S1024x768.Idx) :
    v.read (Elt F) (v.writes (Elt F) f (⟨topRect, a⟩ :: L)) (botRect.emb x) = v.read (Elt F) (v.writes (Elt F) f L) (botRect.emb x) := by
  rw [View.read_writes_cons_miss_of_axis v f ⟨topRect, a⟩ _ _ 0 0 1024 rfl rfl rfl
    (.inr (by show 0 + 1024 ≤ 1024 + 1 * (x 0).val; omega))]

end Cert.Moe

end
-- ==== Proof.RunLater.lean ====
module

public import proofs.«01_k».proof.Proof.Step
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

/-! The body at a grid point after the first. -/

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's branch condition at grid point `i`: whether the point is the first. -/
abbrev isFirst (i : grid0.Coords) : Prop := k0_cond1 i = 1#1

set_option maxHeartbeats 4000000 in
/-- At a point after the first, the body adds this expert's contribution to the output's buffer and leaves every other
buffer, the loss's and the two scratch buffers among them, as it found it. -/
theorem run_later (c : Dev nD) (i : grid0.Coords)
    (a1 : Memref sig .tc .vmem S2048x768 .f32) (h1 : a1.IsWhole) (a2 : Memref sig .tc .vmem S768x8 .f32) (h2 : a2.IsWhole)
    (a3 : Memref sig .tc .vmem S1x1024x768 .f32) (h3 : a3.IsWhole) (a4 : Memref sig .tc .vmem S1x768x512 .f32) (h4 : a4.IsWhole)
    (a5 : Memref sig .tc .vmem S1x768 .f32) (h5 : a5.IsWhole) (a6 : Memref sig .tc .vmem S2048x768 .f32) (h6 : a6.IsWhole)
    (a7 : Memref sig .tc .vmem S1x1 .f32) (h7 : a7.IsWhole) (a8 : Memref sig .tc .vmem S2048x768 .f32) (h8 : a8.IsWhole)
    (a9 : Memref sig .tc .vmem S2048x8 .f32) (h9 : a9.IsWhole) (hc : ¬ isFirst i)
    (x0 : Vec F S2048x768 .f32) (x1 : Vec F S768x8 .f32) (x2 : Vec F S1x1024x768 .f32) (x3 : Vec F S1x768x512 .f32)
    (x4 : Vec F S1x768 .f32) (o : Vec F S2048x768 .f32) (l : Vec F S1x1 .f32) (xq : Vec F S2048x768 .f32) (g : Vec F S2048x8 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare o
        ∗ owns (c : Thread nD τ) a7 fullShare l ∗ owns (c : Thread nD τ) a8 fullShare xq ∗ owns (c : Thread nD τ) a9 fullShare g
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (stepOut i x2 x3 xq g o)
            ∗ owns (c : Thread nD τ) a7 fullShare l ∗ owns (c : Thread nD τ) a8 fullShare xq ∗ owns (c : Thread nD τ) a9 fullShare g) -∗ K ⟨⟩))
      ⊢ wp frame (wpE (defs₀ (F := F)) Variants.none c none) E
          (cc0__moe_kernel i a1 h1 a2 h2 a3 h3 a4 h4 a5 h5 a6 h6 a7 h7 a8 h8 a9 h9) K := by
  simp only [cc0__moe_kernel_eq_skeleton]; unfold cc0__moe_kernel_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%f9, %hf9, H9⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.readAt_full a3.view f2, View.readAt_full a4.view f3, hf2, hf3]
    refine (read_halves a6.view f5 _ _ []).trans ?_
    subst hf5 hf8 hf9
    rfl
  isplitl [H6]
  · iexists _; isplitr; · ipureintro; exact hf6
    iexact H6
  isplitl [H8]
  · iexists _; isplitr; · ipureintro; exact hf8
    iexact H8
  iexists _; isplitr; · ipureintro; exact hf9
  iexact H9

end Cert.Moe

end
-- ==== Proof.RunFirst.lean ====
module

public import proofs.«01_k».proof.Proof.RunLater
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

/-! The body at the first grid point. -/

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- At the first point, whatever the output's, the loss's and the two scratch buffers hold, the body leaves the bias
plus the first expert's contribution in the output's buffer, the loss in the loss's, and the quantized rows and the gates
in the scratch buffers. -/
theorem run_first (c : Dev nD) (i : grid0.Coords)
    (a1 : Memref sig .tc .vmem S2048x768 .f32) (h1 : a1.IsWhole) (a2 : Memref sig .tc .vmem S768x8 .f32) (h2 : a2.IsWhole)
    (a3 : Memref sig .tc .vmem S1x1024x768 .f32) (h3 : a3.IsWhole) (a4 : Memref sig .tc .vmem S1x768x512 .f32) (h4 : a4.IsWhole)
    (a5 : Memref sig .tc .vmem S1x768 .f32) (h5 : a5.IsWhole) (a6 : Memref sig .tc .vmem S2048x768 .f32) (h6 : a6.IsWhole)
    (a7 : Memref sig .tc .vmem S1x1 .f32) (h7 : a7.IsWhole) (a8 : Memref sig .tc .vmem S2048x768 .f32) (h8 : a8.IsWhole)
    (a9 : Memref sig .tc .vmem S2048x8 .f32) (h9 : a9.IsWhole) (hc : isFirst i)
    (x0 : Vec F S2048x768 .f32) (x1 : Vec F S768x8 .f32) (x2 : Vec F S1x1024x768 .f32) (x3 : Vec F S1x768x512 .f32)
    (x4 : Vec F S1x768 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (∃ d, owns (c : Thread nD τ) a7 fullShare d) ∗ (∃ d, owns (c : Thread nD τ) a8 fullShare d) ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (stepOut i x2 x3 (quantRows x0) (gateRows x0 x1) (biasRows x4))
            ∗ owns (c : Thread nD τ) a7 fullShare (lossOf x0 x1) ∗ owns (c : Thread nD τ) a8 fullShare (quantRows x0)
            ∗ owns (c : Thread nD τ) a9 fullShare (gateRows x0 x1)) -∗ K ⟨⟩))
      ⊢ wp frame (wpE (defs₀ (F := F)) Variants.none c none) E
          (cc0__moe_kernel i a1 h1 a2 h2 a3 h3 a4 h4 a5 h5 a6 h6 a7 h7 a8 h8 a9 h9) K := by
  simp only [cc0__moe_kernel_eq_skeleton]; unfold cc0__moe_kernel_skel
  simp only [k0_part3_eq_skeleton, k0_part4_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, ⟨%d9, %f9, -, H9⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.readAt_full a3.view f2, View.readAt_full a4.view f3, View.readAt_full a5.view f4, View.readAt_full a1.view f0,
      View.readAt_full a2.view f1, hf2, hf3, hf4, hf0, hf1]
    refine (read_halves a6.view f5 _ _ _).trans ?_
    unfold stepOut topOut botOut
    have e8 : ∀ f, a8.view.read (Elt F) (a8.view.writes (Elt F) f _) = quantRows x0 := fun f =>
      (read_halves a8.view f _ _ []).trans (by subst hf0; rfl)
    have e9 : ∀ f, a9.view.read (Elt F) (a9.view.writes (Elt F) f
        [⟨Rect.unit (s := S2048x8) ![0, 0] S2048x8.size inb_S2048x8_S2048x8_0_0, k0_pay8 x0 x1⟩]) = gateRows x0 x1 := fun f =>
      View.read_writes_full a9.view f _ _ []
    have e6 : ∀ f, a6.view.read (Elt F) (a6.view.writes (Elt F) f
        [⟨Rect.unit (s := S2048x768) ![0, 0] S2048x768.size inb_S2048x768_S2048x768_0_0, k0_pay10 x4⟩]) = biasRows x4 := fun f =>
      View.read_writes_full a6.view f _ _ []
    congr 1
    · congr 1
      · exact readAt_of_read a8.view _ (e8 _) _
      · exact readAt_of_read a9.view _ (e9 _) _
      · exact readAt_of_read a6.view _ (e6 _) _
    · congr 1
      · exact readAt_of_read a8.view _ (e8 _) _
      · exact readAt_of_read a9.view _ (e9 _) _
      · funext x
        exact (read_bot_of_top a6.view _ _ _ x).trans (congrFun (e6 _) _)
  isplitl [H6]
  · iexists _; isplitr
    swap; · iexact H6
    ipureintro
    sl_unfold_words
    rw [View.read_writes_full, View.readAt_full a1.view f0, View.readAt_full a2.view f1, hf0, hf1]
    rfl
  isplitl [H8]
  · iexists _; isplitr
    swap; · iexact H8
    ipureintro
    sl_unfold_words
    refine (read_halves a8.view f8 _ _ []).trans ?_
    subst hf0
    rfl
  iexists _; isplitr
  swap; · iexact H9
  ipureintro
  sl_unfold_words
  rw [View.read_writes_full, View.readAt_full a1.view f0, View.readAt_full a2.view f1, hf0, hf1]
  rfl

end Cert.Moe

end
-- ==== Proof.Launched.lean ====
module

public import proofs.«01_k».proof.Proof.RunFirst
public import proofs.«01_k».proof.Proof.Gen.KernelIdeal.Launch
public import Idealize.ShloMosaic.Lib.Claim

@[expose] public section

set_option maxRecDepth 16384

noncomputable section

/-! The whole launch of the expert kernel: what every buffer holds after each of the eight grid points, the body's
obligation at each, and the run from start to end. -/

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points_lt (t : Fin cfg0.N) : t.val < 8 := lt_of_lt_of_eq t.isLt (show cfg0.N = 8 from N_0)

/-- The branch condition holds at the first point only. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have key : isFirst (grid0.coords t) ↔ t.val % 8 = 0 := by
      simp only [isFirst, k0_cond1, e0]
      word_cmp
    rw [key]; omega
   : ∀ t : Fin grid0.N, isFirst (grid0.coords t) ↔ t.val = 0)

/-- The first grid point. -/
abbrev t0 : Fin cfg0.N := ⟨0, by rw [show cfg0.N = 8 from N_0]; decide⟩

/-- The quantized rows the first point leaves in scratch, -/
def xqAt (c : Dev nD) : Vec F S2048x768 .f32 := quantRows (iblk m c 0 t0)
/-- the gates it leaves there, -/
def gAt (c : Dev nD) : Vec F S2048x8 .f32 := gateRows (iblk m c 0 t0) (iblk m c 1 t0)
/-- and the loss. -/
def lossAt (c : Dev nD) : Vec F S1x1 .f32 := lossOf (iblk m c 0 t0) (iblk m c 1 t0)

/-- The output's buffer after point `n`: the bias rows, then one expert's contribution per point. -/
def outAt (c : Dev nD) : (n : ℕ) → n < cfg0.N → Vec F S2048x768 .f32
  | 0, h => stepOut (grid0.coords ⟨0, h⟩) (iblk m c 2 ⟨0, h⟩) (iblk m c 3 ⟨0, h⟩) (xqAt m c) (gAt m c) (biasRows (iblk m c 4 t0))
  | n + 1, h => stepOut (grid0.coords ⟨n + 1, h⟩) (iblk m c 2 ⟨n + 1, h⟩) (iblk m c 3 ⟨n + 1, h⟩) (xqAt m c) (gAt m c)
      (outAt c n (Nat.lt_of_succ_lt h))

theorem outAt_pos (c : Dev nD) (t : Fin cfg0.N) (h : t.val ≠ 0) :
    outAt m c t.val t.isLt = stepOut (grid0.coords t) (iblk m c 2 t) (iblk m c 3 t) (xqAt m c) (gAt m c)
      (outAt m c (t.val - 1) (Nat.lt_of_le_of_lt (Nat.sub_le _ _) t.isLt)) := by
  obtain ⟨n, hn⟩ := t
  cases n with
  | zero => exact absurd rfl h
  | succ n => rfl

/-- The two scratch buffers, as the body is given them. -/
abbrev xqMem : Memref sig .tc .vmem S2048x768 .f32 := Memref.whole cc0_scratch0
abbrev gMem : Memref sig .tc .vmem S2048x8 .f32 := Memref.whole cc0_scratch1

/-- The launch's standing invariant with the scratch buffers owned at some contents. -/
theorem phiA_eq (c : Dev nD) :
    (Pipeline.ΦA spec0 c : sProp 𝕄)
      = iprop(iprop((∃ d, owns (c : Thread nD τ) xqMem fullShare d) ∗ (∃ d, owns (c : Thread nD τ) gMem fullShare d)) ∗ (∃ r, prngReg c r)) := by
  unfold Pipeline.ΦA; rw [scopedRest0_eq]; simp only [xqMem, gMem, owns_whole]; try rfl

/-- The invariant before point `n`: the launch's own before the first point; after it, the scratch buffers at the quantized
rows and the gates. -/
def phi (c : Dev nD) : ℕ → sProp 𝕄
  | 0 => Pipeline.ΦA spec0 c
  | _ + 1 => iprop(iprop(owns (c : Thread nD τ) xqMem fullShare (xqAt m c) ∗ owns (c : Thread nD τ) gMem fullShare (gAt m c))
      ∗ (∃ r, prngReg c r))

theorem phi_zero (c : Dev nD) (n : ℕ) (h : n = 0) : phi m c n = Pipeline.ΦA spec0 c := by subst h; rfl

theorem phi_pos (c : Dev nD) (n : ℕ) (h : n ≠ 0) :
    phi m c n = iprop(iprop(owns (c : Thread nD τ) xqMem fullShare (xqAt m c) ∗ owns (c : Thread nD τ) gMem fullShare (gAt m c))
      ∗ (∃ r, prngReg c r)) := by
  cases n with
  | zero => exact absurd rfl h
  | succ n => rfl

/-- The launch's data on core `c`: each input's buffer keeps its block, the output's holds `outAt`, the loss's holds the
loss from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
    | ⟨6, _⟩ => lossAt m c
  Φ t := phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t.val t.isLt := by dsimp only [dats]
theorem after_6 (c : Dev nD) (t : Fin cfg0.N) : (dats m 0 c).after 6 t = lossAt m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the output's buffer holds what the point before left there. -/
theorem before_5 (c : Dev nD) (t : Fin cfg0.N) (h0 : t.val ≠ 0) (d) :
    (dats m 0 c).before 5 t d = outAt m c (t.val - 1) (Nat.lt_of_le_of_lt (Nat.sub_le _ _) t.isLt) := by
  have hN := points_lt t
  rw [Dat.before_out_kept _ 5 rfl t h0 (Bool.eq_false_iff.mpr fun h => by have := (flush0_5 _).mp h; dsimp only at this; omega)
    (fun _ => rfl) (fun _ _ => rfl)]
  dsimp only [dats]

/-- The loss's window is idle exactly where the branch condition fails. -/
theorem idle_6 (t : Fin cfg0.N) : cfg0.idle 6 (cfg0.grid.coords t) = !(k0_cond1 (grid0.coords t) == 1#1) := rfl

theorem idle_6_of_pos (t : Fin cfg0.N) (h : t.val ≠ 0) : cfg0.idle 6 (cfg0.grid.coords t) = true := by
  rw [idle_6, Bool.not_eq_true', beq_eq_false_iff_ne]
  exact fun hc => h ((isFirst_iff t).mp hc)

theorem idle_6_of_zero (t : Fin cfg0.N) (h : t.val = 0) : cfg0.idle 6 (cfg0.grid.coords t) = false := by
  rw [idle_6, Bool.not_eq_false', beq_iff_eq]
  exact (isFirst_iff t).mpr h

/-- After the first point the loss's buffer holds the loss. -/
theorem before_6 (c : Dev nD) (d) : ∀ (n : ℕ) (h : n + 1 < cfg0.N), (dats m 0 c).before 6 ⟨n + 1, h⟩ d = lossAt m c := by
  intro n
  induction n with
  | zero =>
    intro h
    have hN : cfg0.N = 8 := N_0
    rw [Dat.before_of_pos _ 6 ⟨0 + 1, h⟩ (by simp) ((cfg0.win 6).fetch_out rfl _)]
    rw [if_neg (fun hf => by have := (flush0_6 _).mp hf; dsimp only at this; omega)]
    unfold Dat.left
    rw [idle_6_of_zero ⟨0 + 1 - 1, _⟩ rfl]
    unfold Dat.kept
    rw [Pipeline.fill_of_clip_none 6 _ (fun _ => rfl) d ((dats m 0 c).after 6 _), Window.fill_cut]
    dsimp only [dats]
  | succ n ih =>
    intro h
    have hN : cfg0.N = 8 := N_0
    rw [Dat.before_of_pos _ 6 ⟨n + 1 + 1, h⟩ (by simp) ((cfg0.win 6).fetch_out rfl _)]
    rw [if_neg (fun hf => by have := (flush0_6 _).mp hf; dsimp only at this; omega)]
    unfold Dat.left
    rw [idle_6_of_pos ⟨n + 1 + 1 - 1, _⟩ (by simp)]
    exact ih (Nat.lt_of_succ_lt h)

/-- The loss's current buffer at point `t`. -/
abbrev lossMem (t : Fin cfg0.N) : Memref sig .tc .vmem S1x1 .f32 := win0_6.stage (cfg0.slots t 6)

/-- At a later point the loss's buffer, still at the loss, is what the obligation asks for: at the last point, which
writes it back, at the loss; before, as it was found. -/
theorem leaves_6 (c : Dev nD) (t : Fin cfg0.N) (h : t.val ≠ 0) :
    owns (c : Thread nD τ) (lossMem t) fullShare (lossAt m c) ⊢ ((dats m 0 c).leavesExact 6 t : sProp 𝕄) := by
  unfold Dat.leavesExact
  rw [idle_6_of_pos t h]
  cases (cfg0.win 6).flush t
  · have hb : (dats m 0 c).before 6 t (lossAt m c) = lossAt m c := by
      obtain ⟨n, hn⟩ := t
      cases n with
      | zero => exact absurd rfl h
      | succ n => exact before_6 m c _ n hn
    iintro H
    iexists (lossAt m c)
    rw [hb]
    iexact H
  · dsimp only
    rw [after_6]

/-- At the first point, which stores the loss, the buffer is left at it. -/
theorem leaves_6_first (c : Dev nD) (t : Fin cfg0.N) (h : t.val = 0) :
    owns (c : Thread nD τ) (lossMem t) fullShare (lossAt m c) ⊢ ((dats m 0 c).leavesExact 6 t : sProp 𝕄) := by
  unfold Dat.leavesExact
  rw [idle_6_of_zero t h]
  dsimp only
  rw [after_6]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (lossMem t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t)

set_option maxHeartbeats 3200000 in
/-- The body at any point carries `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = phi m c (t.val + 1) from rfl, phi_pos m c _ (Nat.succ_ne_zero _),
    show (dats m 0 c).Φ t.castSucc = phi m c t.val from rfl]
  by_cases hz : t.val = 0
  · have ht : t = t0 := Fin.ext hz
    rw [phi_zero m c _ hz, phiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ ((isFirst_iff t).mpr hz) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    have e5 : outAt m c t.val t.isLt = stepOut (grid0.coords t) (iblk m c 2 t) (iblk m c 3 t) (quantRows (iblk m c 0 t))
        (gateRows (iblk m c 0 t) (iblk m c 1 t)) (biasRows (iblk m c 4 t)) := by subst ht; rfl
    have e8 : xqAt m c = quantRows (iblk m c 0 t) := by subst ht; rfl
    have e9 : gAt m c = gateRows (iblk m c 0 t) (iblk m c 1 t) := by subst ht; rfl
    have e6 : lossAt m c = lossOf (iblk m c 0 t) (iblk m c 1 t) := by subst ht; rfl
    rw [e5, e8, e9, ← e6]
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6_first m c t hz)
    iexact H6
  · rw [phi_pos m c _ hz, outAt_pos m c t hz]
    have hb6 : ∀ d, (dats m 0 c).before 6 t d = lossAt m c := fun d => by
      obtain ⟨n, hn⟩ := t
      cases n with
      | zero => exact absurd rfl hz
      | succ n => exact before_6 m c _ n hn
    simp only [before_5 m c t hz, hb6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ _ _ (fun h => hz ((isFirst_iff t).mp h)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t hz)
    iexact H6

/-- The body the launch calls at point `t` is the kernel's body on the point's buffers. -/
theorem bodyRow (t : Fin cfg0.N) : defs₀ (F := F) .tc cfg0.body (cfg0.bodyArgs t (cfg0.slots t)) = bodyAt0 t := by
  unfold defs₀; rw [Defs.onTc_tc]

/-- The launch's obligation for the body, at every point. -/
theorem obligation (c : Dev nD) : BodyObligation (dats (F := F) m 0 c) (defs₀ (F := F)) Variants.none () Set.univ := fun t => by
  rw [bigSep_W0, bigSep_W0, bodyRow]
  exact triple_restated (sound_body m c t) rfl .rfl fun _ => .rfl

theorem phi_in (c : Dev nD) : Pipeline.ΦA spec0 c ⊢ (dats m 0 c).Φ 0 := by
  rw [show (dats m 0 c).Φ 0 = phi m c 0 from rfl, phi_zero m c 0 rfl]

/-- After the last point the scratch buffers are given back, their contents forgotten. -/
theorem phi_out (c : Dev nD) : (dats m 0 c).Φ (Fin.last cfg0.N) ⊢ Pipeline.ΦA spec0 c := by
  rw [show (dats m 0 c).Φ (Fin.last cfg0.N) = phi m c cfg0.N from rfl,
    phi_pos m c _ (by rw [show cfg0.N = 8 from N_0]; decide), phiA_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run: it ends, its final state has every array at what the launch's data say, and every counter at zero. -/
theorem run_all : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The idealized kernel's run leaves its arguments as they were and its counters at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Moe

end
-- ==== Proof.Results.lean ====
module

public import proofs.«01_k».proof.Proof.Launched
public import Idealize.ShloMosaic.Lib.Pipeline.Value

@[expose] public section

set_option maxRecDepth 16384

noncomputable section

/-! The kernel's two results after its run, and the blocks its body reads, in terms of the launched arguments. -/

namespace Cert.Moe

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)

variable {F : FTy → Type} [FloatOps F]

variable (m : (ℓ : Loc nD τ sig) → Buf (Elt F) ℓ) (ρ : Dev nD → PrngReg)

/-- The last grid point. -/
abbrev t7 : Fin cfg0.N := ⟨7, by rw [show cfg0.N = 8 from N_0]; decide⟩

theorem index_0 : ∀ (t : Fin cfg0.N) (a : Fin 2), win0_0.index t a = 0 := by decide +kernel
theorem index_1 : ∀ (t : Fin cfg0.N) (a : Fin 2), win0_1.index t a = 0 := by decide +kernel
theorem index_2 : ∀ (t : Fin cfg0.N) (a : Fin 3), win0_2.index t a = if a = 0 then t.val else 0 := by decide +kernel
theorem index_3 : ∀ (t : Fin cfg0.N) (a : Fin 3), win0_3.index t a = if a = 0 then t.val else 0 := by decide +kernel
theorem index_4 : ∀ (t : Fin cfg0.N) (a : Fin 2), win0_4.index t a = 0 := by decide +kernel
theorem index_5 : ∀ (t : Fin cfg0.N) (a : Fin 2), win0_5.index t a = 0 := by decide +kernel
theorem index_6 : ∀ (t : Fin cfg0.N) (a : Fin 2), win0_6.index t a = 0 := by decide +kernel

/-- The rows' block is the whole array of rows. -/
theorem block_0 (c : Dev nD) (t : Fin cfg0.N) : iblk m c 0 t = V m c main_v0 := by
  funext y
  show V m c main_v0 (((cfg0.win 0).rect t).emb y) = _
  congr 1
  funext a
  exact Fin.ext (Window.rect_emb_val_of_index_zero (cfg0.win 0) t a (index_0 t a) y)

theorem block_1 (c : Dev nD) (t : Fin cfg0.N) : iblk m c 1 t = V m c main_arg1 := by
  funext y
  show V m c main_arg1 (((cfg0.win 1).rect t).emb y) = _
  congr 1
  funext a
  exact Fin.ext (Window.rect_emb_val_of_index_zero (cfg0.win 1) t a (index_1 t a) y)

theorem block_4 (c : Dev nD) (t : Fin cfg0.N) : iblk m c 4 t = V m c main_v1 := by
  funext y
  show V m c main_v1 (((cfg0.win 4).rect t).emb y) = _
  congr 1
  funext a
  exact Fin.ext (Window.rect_emb_val_of_index_zero (cfg0.win 4) t a (index_4 t a) y)

/-- Point `t` reads expert `t`'s input weights, -/
theorem block_2 (c : Dev nD) (t : Fin cfg0.N) (y : S1x1024x768.Idx) :
    iblk m c 2 t y = V m c main_arg2 (ix3 ⟨t.val, points_lt t⟩ (y 1) (y 2)) := by
  show V m c main_arg2 (((cfg0.win 2).rect t).emb y) = _
  congr 1
  funext a
  refine Fin.ext ((Window.rect_emb_val (cfg0.win 2) t y a).trans ?_)
  rw [show (cfg0.win 2).index t a = _ from index_2 t a]
  have h0 : (y 0).val < 1 := (y 0).isLt
  fin_cases a
  · show t.val * 1 + (y 0).val = t.val
    omega
  · show 0 * 1024 + (y 1).val = (y 1).val
    omega
  · show 0 * 768 + (y 2).val = (y 2).val
    omega

/-- and its output weights. -/
theorem block_3 (c : Dev nD) (t : Fin cfg0.N) (y : S1x768x512.Idx) :
    iblk m c 3 t y = V m c main_arg3 (ix3 ⟨t.val, points_lt t⟩ (y 1) (y 2)) := by
  show V m c main_arg3 (((cfg0.win 3).rect t).emb y) = _
  congr 1
  funext a
  refine Fin.ext ((Window.rect_emb_val (cfg0.win 3) t y a).trans ?_)
  rw [show (cfg0.win 3).index t a = _ from index_3 t a]
  have h0 : (y 0).val < 1 := (y 0).isLt
  fin_cases a
  · show t.val * 1 + (y 0).val = t.val
    omega
  · show 0 * 768 + (y 1).val = (y 1).val
    omega
  · show 0 * 512 + (y 2).val = (y 2).val
    omega

/-- The rows the region finds: the first argument, its leading axis of one dropped. -/
theorem V_main_v0 (c : Dev nD) :
    V m c main_v0 = shapeCast S2048x768 (m ((c : Thread nD τ).loc main_arg0)) shapeCasts_S1x2048x768_S2048x768 := by
  simp only [V, V0, hostOps0, List.flatten_cons, List.flatten_nil, List.append_nil]
  simp only [StableHlo.after_cons, StableHlo.after_nil]
  rfl

/-- The bias it finds: the last argument, as one row. -/
theorem V_main_v1 (c : Dev nD) :
    V m c main_v1 = shapeCast S1x768 (m ((c : Thread nD τ).loc main_arg4)) shapeCasts_S768_S1x768 := by
  simp only [V, V0, hostOps0, List.flatten_cons, List.flatten_nil, List.append_nil]
  simp only [StableHlo.after_cons, StableHlo.after_nil]
  rfl

/-- The last point writes the whole output back. -/
theorem final_out (c : Dev nD) : (dats m 0 c).arrAt 5 cfg0.N = outAt m c 7 t7.isLt := by
  refine (dats m 0 c).arrAt_eq_of_cover 5 (outAt m c 7 t7.isLt) (fun t hf => ?_) (fun i => ⟨t7, (flush0_5 _).mpr rfl, ?_⟩)
  · have ht : t = t7 := Fin.ext (by have := (flush0_5 _).mp hf; have := points_lt t; show t.val = 7; omega)
    subst ht
    show (cfg0.win 5).cut (grid0.coords t7) ((dats m 0 c).after 5 t7) = _
    rw [after_5]
    funext y
    show outAt m c 7 t7.isLt y = outAt m c 7 t7.isLt (((cfg0.win 5).rect t7).emb y)
    congr 1
    funext a
    exact Fin.ext (Window.rect_emb_val_of_index_zero (cfg0.win 5) t7 a (index_5 t7 a) y).symm
  · have e : i = ((cfg0.win 5).blk t7).view.emb i := by
      funext a
      exact Fin.ext (Window.rect_emb_val_of_index_zero (cfg0.win 5) t7 a (index_5 t7 a) i).symm
    rw [e]
    exact ((cfg0.win 5).blk t7).view.emb_mem_set i

/-- And the loss. -/
theorem final_loss (c : Dev nD) : (dats m 0 c).arrAt 6 cfg0.N = lossAt m c := by
  refine (dats m 0 c).arrAt_eq_of_cover 6 (lossAt m c) (fun t hf => ?_) (fun i => ⟨t7, (flush0_6 _).mpr rfl, ?_⟩)
  · show (cfg0.win 6).cut (grid0.coords t) ((dats m 0 c).after 6 t) = _
    rw [after_6]
    funext y
    show lossAt m c y = lossAt m c (((cfg0.win 6).rect t).emb y)
    congr 1
    funext a
    exact Fin.ext (Window.rect_emb_val_of_index_zero (cfg0.win 6) t a (index_6 t a) y).symm
  · have e : i = ((cfg0.win 6).blk t7).view.emb i := by
      funext a
      exact Fin.ext (Window.rect_emb_val_of_index_zero (cfg0.win 6) t7 a (index_6 t7 a) i).symm
    rw [e]
    exact ((cfg0.win 6).blk t7).view.emb_mem_set i

/-- The first result: the output with a leading axis of one. -/
def result0 (c : Dev nD) : Vec F S1x2048x768 .f32 :=
  shapeCast S1x2048x768 (outAt m c 7 t7.isLt) shapeCasts_S2048x768_S1x2048x768

/-- The second: the loss as a scalar. -/
def result1 (c : Dev nD) : Vec F S_ .f32 := shapeCast S_ (lossAt m c) shapeCasts_S1x1_S_

theorem tail_v3 (c : Dev nD) : Pipeline.afterTail₀ cfgs (dats m) 0 (V0 m) [hostOps1] c main_v3 = result0 m c := by
  unfold Pipeline.afterTail₀ result0
  rw [← (Pipeline.withArrays_arr spec0 launch0.win.arr_inj c (V0 m c) (fun w => (dats m 0 c).arrAt w cfg0.N) 5).trans (final_out m c)]
  simp only [hostOps1, List.flatten_cons, List.flatten_nil, List.append_nil, StableHlo.after_cons, StableHlo.after_nil]
  rfl

theorem tail_v4 (c : Dev nD) : Pipeline.afterTail₀ cfgs (dats m) 0 (V0 m) [hostOps1] c main_v4 = result1 m c := by
  unfold Pipeline.afterTail₀ result1
  rw [← (Pipeline.withArrays_arr spec0 launch0.win.arr_inj c (V0 m c) (fun w => (dats m 0 c).arrAt w cfg0.N) 6).trans (final_loss m c)]
  simp only [hostOps1, List.flatten_cons, List.flatten_nil, List.append_nil, StableHlo.after_cons, StableHlo.after_nil]
  rfl

/-- The run's results, on every device, beside its arguments as they were. -/
theorem kernel_results : θ_run defs (onTc (τ := τ) (main (F := F))) ⟨m, fun _ => 0, ρ⟩ (fun r => ∀ c : Dev nD,
      r.2.mem ((c.tc : Thread nD τ).loc main_v3) = result0 m c
      ∧ r.2.mem ((c.tc : Thread nD τ).loc main_v4) = result1 m c) :=
  (θ_run defs _ _).mono (fun _ h c => ⟨
      ((h.1 c).2 main_v3 (Pipeline.mem_restRefs_of main_v3 (by decide) (by decide))).trans (tail_v3 m c),
      ((h.1 c).2 main_v4 (Pipeline.mem_restRefs_of main_v4 (by decide) (by decide))).trans (tail_v4 m c)⟩) (run_all m ρ)

end Cert.Moe

end
-- ==== Proof.Spec.lean ====
module

public import Idealize.ShloMosaic.Lib.Pointwise

@[expose] public section

noncomputable section

/-! The layer's quantizers, its expert and its router's arithmetic over the real numbers, and the extended-real
expressions both programs compute, read as those real numbers. -/

namespace Cert.Moe

open Idealize.ShloMosaic

/-- The least scale both quantizers allow, the number the word `0x3727C5AC` names. -/
def eps : ℝ := 10995116 / 2 ^ 40

theorem eps_pos : 0 < eps := by unfold eps; norm_num

/-! The literals of the two programs. -/

theorem lit_eps : Ideal.ofBits .f32 925353388#32 = ((eps : ℝ) : EReal) := by
  unfold eps; simp [Ideal.ofBits, Ideal.ieee, -EReal.coe_mul]; norm_num
theorem lit_127 : Ideal.ofBits .f32 1123942400#32 = ((127 : ℝ) : EReal) := by
  simp [Ideal.ofBits, Ideal.ieee, -EReal.coe_mul]; norm_num
theorem lit_neg128 : Ideal.ofBits .f32 3271557120#32 = (((-128 : ℝ)) : EReal) := by
  simp [Ideal.ofBits, Ideal.ieee, -EReal.coe_mul]; norm_num
theorem lit_neg1 : Ideal.ofBits .f32 3212836864#32 = (((-1 : ℝ)) : EReal) := by
  simp [Ideal.ofBits, Ideal.ieee, -EReal.coe_mul]; norm_num
theorem lit_in : Ideal.ofBits .f32 1228931072#32 = ((786432 : ℝ) : EReal) := by
  simp [Ideal.ofBits, Ideal.ieee, -EReal.coe_mul]; norm_num
theorem lit_out : Ideal.ofBits .f32 1220542464#32 = ((393216 : ℝ) : EReal) := by
  simp [Ideal.ofBits, Ideal.ieee, -EReal.coe_mul]; norm_num
theorem lit_2048 : Ideal.ofBits .f32 1157627904#32 = ((2048 : ℝ) : EReal) := by
  simp [Ideal.ofBits, Ideal.ieee, -EReal.coe_mul]; norm_num
theorem lit_4096 : Ideal.ofBits .f32 1166016512#32 = ((4096 : ℝ) : EReal) := by
  simp [Ideal.ofBits, Ideal.ieee, -EReal.coe_mul]; norm_num
theorem lit_8 : Ideal.ofBits .f32 1090519040#32 = ((8 : ℝ) : EReal) := by
  simp [Ideal.ofBits, Ideal.ieee, -EReal.coe_mul]; norm_num
theorem lit_2 : Ideal.ofBits .f32 1073741824#32 = ((2 : ℝ) : EReal) := by
  simp [Ideal.ofBits, Ideal.ieee, -EReal.coe_mul]; norm_num
theorem lit_bot : Ideal.ofBits .f32 4286578688#32 = (⊥ : EReal) := by
  simp [Ideal.ofBits, Ideal.ieee]

/-! The operations on real arguments. -/

theorem coe_sum {n : ℕ} (f : Fin n → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

theorem coe_absf (a : ℝ) : (FloatOps.absf (F := Ideal) (φ := .f32) ((a : ℝ) : EReal) : EReal) = ((|a| : ℝ) : EReal) := by
  show max ((a : ℝ) : EReal) (-((a : ℝ) : EReal)) = _
  rw [← EReal.coe_neg, ← EReal.coe_strictMono.monotone.map_max]; rfl

theorem coe_max (a b : ℝ) : max ((a : ℝ) : EReal) ((b : ℝ) : EReal) = ((max a b : ℝ) : EReal) :=
  (EReal.coe_strictMono.monotone.map_max).symm

theorem coe_min (a b : ℝ) : min ((a : ℝ) : EReal) ((b : ℝ) : EReal) = ((min a b : ℝ) : EReal) :=
  (EReal.coe_strictMono.monotone.map_min).symm

theorem coe_div (a b : ℝ) (h : b ≠ 0) : Ideal.div ((a : ℝ) : EReal) ((b : ℝ) : EReal) = ((a / b : ℝ) : EReal) := by
  rw [Ideal.div_coe h, ← EReal.coe_mul]; congr 1; rw [mul_one_div]

/-- Rounding to the nearest integer, ties to even. -/
def rnd (r : ℝ) : ℝ := ((Ideal.roundHalfEven r : ℤ) : ℝ)

theorem coe_rnd (r : ℝ) : Ideal.liftRound Ideal.roundHalfEven ((r : ℝ) : EReal) = ((rnd r : ℝ) : EReal) :=
  rfl

/-- `r` held between `lo` and `hi`. -/
def clip (lo hi r : ℝ) : ℝ := min hi (max lo r)

/-- The greatest absolute value of a row. -/
def peak {n : ℕ} (v : Fin n → ℝ) : ℝ := (Finset.univ.fold max (⊥ : EReal) fun k => ((|v k| : ℝ) : EReal)).toReal

theorem coe_peak {n : ℕ} (v : Fin (n + 1) → ℝ) :
    (Finset.univ.fold max (⊥ : EReal) fun k => ((|v k| : ℝ) : EReal)) = ((peak v : ℝ) : EReal) := by
  refine (EReal.coe_toReal ?_ ?_).symm
  · refine ne_of_lt ((Finset.fold_max_lt _).2 ⟨bot_lt_top, fun k _ => EReal.coe_lt_top _⟩)
  · exact ne_of_gt ((Finset.lt_fold_max _).2 (.inr ⟨0, Finset.mem_univ _, EReal.bot_lt_coe _⟩))

/-- A row's scale into the 8-bit range, -/
def rowScale {n : ℕ} (v : Fin n → ℝ) : ℝ := 127 / max (peak v) eps
/-- its entry in that range, rounded, -/
def q8 {n : ℕ} (v : Fin n → ℝ) (k : Fin n) : ℝ := clip (-128) 127 (rnd (v k * rowScale v))
/-- and back at the row's own scale. -/
def dq8 {n : ℕ} (v : Fin n → ℝ) (k : Fin n) : ℝ := q8 v k / rowScale v

theorem rowScale_pos {n : ℕ} (v : Fin n → ℝ) : 0 < rowScale v :=
  div_pos (by norm_num) (lt_max_of_lt_right eps_pos)

/-- A weight matrix's scale, from the mean of its `N` absolute values, -/
def wScale {a b : ℕ} (N : ℝ) (w : Fin a → Fin b → ℝ) : ℝ := 1 / max ((∑ i, ∑ j, |w i j|) / N) eps
/-- its ternary entry, -/
def q2 {a b : ℕ} (N : ℝ) (w : Fin a → Fin b → ℝ) (i : Fin a) (j : Fin b) : ℝ := clip (-1) 1 (rnd (w i j * wScale N w))
/-- and back at the matrix's own scale. -/
def dq2 {a b : ℕ} (N : ℝ) (w : Fin a → Fin b → ℝ) (i : Fin a) (j : Fin b) : ℝ := q2 N w i j / wScale N w

theorem wScale_pos {a b : ℕ} (N : ℝ) (w : Fin a → Fin b → ℝ) : 0 < wScale N w :=
  div_pos one_pos (lt_max_of_lt_right eps_pos)

/-- The expert's two projections of the row `a`, 1024 numbers, -/
def hidden (a : Fin 768 → ℝ) (w : Fin 1024 → Fin 768 → ℝ) (j : Fin 1024) : ℝ := ∑ k, a k * w j k

/-- and the gated product of their halves. -/
def glu (h : Fin 1024 → ℝ) (j : Fin 512) : ℝ :=
  h ⟨j.val, by have := j.isLt; omega⟩ * (1 + Real.exp (-h ⟨j.val, by have := j.isLt; omega⟩))⁻¹
    * h ⟨512 + j.val, by have := j.isLt; omega⟩

/-- The expert's gated contribution to one output entry. -/
def contrib (g : ℝ) (a : Fin 768 → ℝ) (wi : Fin 1024 → Fin 768 → ℝ) (wo : Fin 768 → Fin 512 → ℝ) (d : Fin 768) : ℝ :=
  g * ∑ k, dq8 (glu (hidden a (dq2 786432 wi))) k * dq2 393216 wo d k

/-! The extended-real expressions. -/

/-- A row's scale, as both programs compute it. -/
theorem coe_rowScale {n : ℕ} (v : Fin (n + 1) → ℝ) :
    Ideal.div (Ideal.ofBits .f32 1123942400#32)
        (max (Finset.univ.fold max (Ideal.ofBits .f32 4286578688#32) fun k => (FloatOps.absf (F := Ideal) (φ := .f32) ((v k : ℝ) : EReal) : EReal))
          (Ideal.ofBits .f32 925353388#32))
      = ((rowScale v : ℝ) : EReal) := by
  simp only [coe_absf, lit_bot, lit_127, lit_eps, coe_peak, coe_max]
  exact coe_div _ _ (lt_max_of_lt_right eps_pos).ne'

/-- An entry rounded into the 8-bit range. -/
theorem coe_clip8 (a : ℝ) :
    min (Ideal.ofBits .f32 1123942400#32) (max (Ideal.ofBits .f32 3271557120#32)
        (Ideal.liftRound Ideal.roundHalfEven ((a : ℝ) : EReal)))
      = ((clip (-128) 127 (rnd a) : ℝ) : EReal) := by
  simp only [coe_rnd, lit_127, lit_neg128, coe_max, coe_min]; rfl

/-- An entry rounded to -1, 0 or 1. -/
theorem coe_clip1 (a : ℝ) :
    min (1 : EReal) (max (Ideal.ofBits .f32 3212836864#32) (Ideal.liftRound Ideal.roundHalfEven ((a : ℝ) : EReal)))
      = ((clip (-1) 1 (rnd a) : ℝ) : EReal) := by
  rw [← EReal.coe_one]; simp only [coe_rnd, lit_neg1, coe_max, coe_min]; rfl

/-- A weight matrix's scale, as both programs compute it from the sum of the absolute values. -/
theorem coe_wScale {a b : ℕ} (N : ℝ) (hN : N ≠ 0) (w : Fin a → Fin b → ℝ) :
    Ideal.div 1 (max (Ideal.div (∑ i, ∑ j, (FloatOps.absf (F := Ideal) (φ := .f32) ((w i j : ℝ) : EReal) : EReal)) ((N : ℝ) : EReal))
        (Ideal.ofBits .f32 925353388#32))
      = ((wScale N w : ℝ) : EReal) := by
  rw [← EReal.coe_one]
  simp only [coe_absf, coe_sum, lit_eps, coe_div _ _ hN, coe_max]
  exact coe_div _ _ (lt_max_of_lt_right eps_pos).ne'

/-- The gate on one hidden entry. -/
theorem coe_glu (h : Fin 1024 → ℝ) (j : Fin 512) :
    ((h ⟨j.val, by have := j.isLt; omega⟩ : ℝ) : EReal) * Ideal.logistic ((h ⟨j.val, by have := j.isLt; omega⟩ : ℝ) : EReal)
        * ((h ⟨512 + j.val, by have := j.isLt; omega⟩ : ℝ) : EReal)
      = ((glu h j : ℝ) : EReal) := by
  rw [Ideal.logistic_coe, ← EReal.coe_mul, ← EReal.coe_mul]; rfl

/-- Scaling the product by `g / (row scale * matrix scale)` is dequantizing both factors first. -/
theorem contrib_eq (g : ℝ) (v : Fin 512 → ℝ) (wo : Fin 768 → Fin 512 → ℝ) (d : Fin 768) :
    g / (rowScale v * wScale 393216 wo) * ∑ k, q8 v k * q2 393216 wo d k = g * ∑ k, dq8 v k * dq2 393216 wo d k := by
  have h1 := (rowScale_pos v).ne'
  have h2 := (wScale_pos 393216 wo).ne'
  rw [Finset.mul_sum, Finset.mul_sum]
  refine Finset.sum_congr rfl fun k _ => ?_
  unfold dq8 dq2
  field_simp

end Cert.Moe

end
-- ==== Proof.Route.lean ====
module

public import Idealize.ShloMosaic.Lib.Pointwise
public import Idealize.ShloMosaic.Lib.PlanTiles.Rows
public import Idealize.ShloMosaic.Lib.SortPrefix

@[expose] public section

noncomputable section

/-! The router's choice on one row of eight scores: the greatest, and the greatest of the rest, the first of equals. -/

namespace Cert.Moe

open Idealize.ShloMosaic

/-- The places of the greatest score. -/
def tops (f : Fin 8 → EReal) : Finset (Fin 8) := Finset.univ.filter fun j => ∀ k, f k ≤ f j

theorem tops_nonempty (f : Fin 8 → EReal) : (tops f).Nonempty := by
  obtain ⟨j, hj⟩ := Finite.exists_max f
  exact ⟨j, Finset.mem_filter.2 ⟨Finset.mem_univ _, hj⟩⟩

/-- The first place of the greatest score. -/
def first (f : Fin 8 → EReal) : Fin 8 := (tops f).min' (tops_nonempty f)

theorem le_first (f : Fin 8 → EReal) (k : Fin 8) : f k ≤ f (first f) :=
  (Finset.mem_filter.1 ((tops f).min'_mem (tops_nonempty f))).2 k

theorem lt_first (f : Fin 8 → EReal) (k : Fin 8) (hk : k < first f) : f k < f (first f) := by
  refine lt_of_le_of_ne (le_first f k) fun he => ?_
  have : k ∈ tops f := Finset.mem_filter.2 ⟨Finset.mem_univ _, fun j => he ▸ le_first f j⟩
  exact absurd ((tops f).min'_le k this) (not_le.2 hk)

/-- The scores with the chosen one struck out. -/
def rest (f : Fin 8 → EReal) (j : Fin 8) : EReal := if j = first f then ⊥ else f j

/-- The first place of the greatest score among the rest. -/
def second (f : Fin 8 → EReal) : Fin 8 := first (rest f)

theorem second_ne (f : Fin 8 → EReal) (hf : ∀ j, f j ≠ ⊥) : second f ≠ first f := by
  intro he
  obtain ⟨j, hj⟩ : ∃ j : Fin 8, j ≠ first f := exists_ne _
  have h := le_first (rest f) j
  change rest f j ≤ rest f (second f) at h
  rw [he, rest, if_neg hj, rest, if_pos rfl] at h
  exact hf j (le_bot_iff.1 h)

theorem rest_second (f : Fin 8 → EReal) (hf : ∀ j, f j ≠ ⊥) : rest f (second f) = f (second f) := if_neg (second_ne f hf)

theorem le_second (f : Fin 8 → EReal) (hf : ∀ j, f j ≠ ⊥) (k : Fin 8) (hk : k ≠ first f) : f k ≤ f (second f) := by
  have h := le_first (rest f) k
  change rest f k ≤ rest f (second f) at h
  rwa [rest, if_neg hk, rest, if_neg (second_ne f hf)] at h

theorem lt_second (f : Fin 8 → EReal) (hf : ∀ j, f j ≠ ⊥) (k : Fin 8) (hk : k ≠ first f) (hlt : k < second f) :
    f k < f (second f) := by
  have h := lt_first (rest f) k hlt
  change rest f k < rest f (second f) at h
  rwa [rest, if_neg hk, rest, if_neg (second_ne f hf)] at h

/-- The running maximum from minus infinity is the greatest score. -/
theorem fold_max_eq (f : Fin 8 → EReal) : Finset.univ.fold max (⊥ : EReal) f = f (first f) :=
  le_antisymm ((Finset.fold_max_le _).2 ⟨bot_le, fun k _ => le_first f k⟩)
    ((Finset.le_fold_max _).2 (.inr ⟨first f, Finset.mem_univ _, le_rfl⟩))

/-- The running signed minimum of small words is the word of the running minimum. -/
theorem fold_minsi_eq (N : ℕ) (hN : N < 2 ^ 31) (n : Fin 8 → ℕ) (hn : ∀ k, n k < 2 ^ 31) (s : Finset (Fin 8)) :
    s.fold IntOp.minsi (BitVec.ofNat 32 N) (fun k => BitVec.ofNat 32 (n k)) = BitVec.ofNat 32 (s.fold min N n)
      ∧ s.fold min N n < 2 ^ 31 := by
  classical
  induction s using Finset.induction_on with
  | empty => exact ⟨rfl, hN⟩
  | insert a s ha ih =>
    rw [Finset.fold_insert ha, Finset.fold_insert ha, ih.1, PlanTiles.minsi_word (hn a) ih.2, min_comm]
    exact ⟨rfl, lt_of_le_of_lt (min_le_left _ _) (hn a)⟩

/-- The least place of the greatest score, 8 standing for every other place. -/
theorem fold_min_place (f : Fin 8 → EReal) (N : ℕ) (hN : 8 ≤ N) [hd : ∀ k, Decidable (f k = f (first f))] :
    Finset.univ.fold min N (fun k => if f k = f (first f) then k.val else 8) = (first f).val := by
  refine le_antisymm ((Finset.fold_min_le _).2 (.inr ⟨first f, Finset.mem_univ _, by rw [if_pos rfl]⟩))
    ((Finset.le_fold_min _).2 ⟨by have := (first f).isLt; omega, fun k _ => ?_⟩)
  have := (first f).isLt
  split
  · rename_i hk
    by_contra hlt
    exact absurd hk (lt_first f k (by rw [Fin.lt_def]; omega)).ne
  · omega

/-- The same on words. -/
theorem fold_place_eq (f : Fin 8 → EReal) (b : EReal) (hb : b = f (first f)) [hd : ∀ k, Decidable (f k = b)] :
    Finset.univ.fold IntOp.minsi (2147483647#32) (fun k => if f k = b then BitVec.ofNat 32 k.val else 8#32)
      = BitVec.ofNat 32 (first f).val := by
  subst hb
  have e : (fun k : Fin 8 => if f k = f (first f) then BitVec.ofNat 32 k.val else 8#32)
      = fun k => BitVec.ofNat 32 (if f k = f (first f) then k.val else 8) := by
    funext k; by_cases hk : f k = f (first f)
    · rw [if_pos hk, if_pos hk]
    · rw [if_neg hk, if_neg hk]
  rw [e, (fold_minsi_eq 2147483647 (by norm_num) _ (fun k => by have := k.isLt; split <;> omega) Finset.univ).1,
    fold_min_place f _ (by norm_num)]

/-- Two places' words are equal when the places are. -/
theorem place_eq (j k : Fin 8) :
    IntOp.cmpi .eq (BitVec.ofNat 32 j.val) (BitVec.ofNat 32 k.val) = BitVec.ofBool (decide (j = k)) := by
  revert j k; decide

theorem select_ofBool {α : Type} (p : Prop) [Decidable p] (a b : α) :
    Scalar.select (BitVec.ofBool (decide p)) a b = if p then a else b := by
  by_cases h : p <;> simp [h, Scalar.select]

end Cert.Moe

end
-- ==== Proof.Expert.lean ====
module

public import proofs.«01_k».proof.Proof.Step
public import proofs.«01_k».proof.Proof.Spec
public import proofs.«01_k».proof.Proof.Route

@[expose] public section

set_option maxRecDepth 16384

noncomputable section

/-! One grid point's arrays over the extended reals, on finite blocks: the expert's weights as quantized numbers, the
rows the first point quantizes, and the output after the point. -/

namespace Cert.Moe

open Cert.KernelIdeal Cert.KernelIdeal.Gen Idealize.ShloMosaic

/-- The expert's first weights, quantized and back. -/
theorem wIn_coe (wi : Vec Ideal S1x1024x768 .f32) (W : Fin 1024 → Fin 768 → ℝ)
    (h : ∀ j k, wi (ix3 0 j k) = ((W j k : ℝ) : EReal)) (j : Fin 1024) (k : Fin 768) :
    k0_pay16 wi (ix2 j k) = ((dq2 786432 W j k : ℝ) : EReal) := by
  pointwise [k0_pay16]
  simp only [h, lit_in]
  rw [coe_wScale _ (by norm_num), ← EReal.coe_mul, coe_clip1, coe_div _ _ (wScale_pos _ _).ne']
  rfl

/-- The scale of the expert's second weights, -/
theorem wOutScale_coe (wo : Vec Ideal S1x768x512 .f32) (O : Fin 768 → Fin 512 → ℝ)
    (h : ∀ d k, wo (ix3 0 d k) = ((O d k : ℝ) : EReal)) :
    k0_pay18 wo = ((wScale 393216 O : ℝ) : EReal) := by
  pointwise [k0_pay18, k0_pay17]
  simp only [h, lit_out]
  exact coe_wScale _ (by norm_num) _

/-- and their ternary numbers. -/
theorem wOut_coe (wo : Vec Ideal S1x768x512 .f32) (O : Fin 768 → Fin 512 → ℝ)
    (h : ∀ d k, wo (ix3 0 d k) = ((O d k : ℝ) : EReal)) (d : Fin 768) (k : Fin 512) :
    k0_pay21 (k0_pay19 wo) (k0_pay20 (F := Ideal)) (ix2 d k) = ((q2 393216 O d k : ℝ) : EReal) := by
  pointwise [k0_pay21, k0_pay19, k0_pay20, k0_pay17]
  rw [wOutScale_coe wo O h, h, ← EReal.coe_mul, coe_clip1]
  rfl

/-- The mask picks the expert's own gate out of a row of gates. -/
theorem pick_gate (g : Fin 8 → EReal) (E : Fin 8) :
    (∑ x : Fin 8, Scalar.select (IntOp.cmpi .eq (BitVec.ofNat 32 x.val) (BitVec.ofNat 32 E.val)) (g x) 0) = g E := by
  simp only [place_eq, select_ofBool]
  rw [Finset.sum_ite_eq' Finset.univ E g, if_pos (Finset.mem_univ _)]

/-- One output entry after the point, on a half of the rows. -/
theorem half_coe (E : Fin 8) (wi : Vec Ideal S1x1024x768 .f32) (wo : Vec Ideal S1x768x512 .f32)
    (xq : Vec Ideal S1024x768 .f32) (g : Vec Ideal S1024x8 .f32) (o : Vec Ideal S1024x768 .f32)
    (W : Fin 1024 → Fin 768 → ℝ) (O : Fin 768 → Fin 512 → ℝ) (hW : ∀ j k, wi (ix3 0 j k) = ((W j k : ℝ) : EReal))
    (hO : ∀ d k, wo (ix3 0 d k) = ((O d k : ℝ) : EReal)) (r : Fin 1024) (d : Fin 768) (a : Fin 768 → ℝ) (γ : ℝ)
    (ha : ∀ k, xq (ix2 r k) = ((a k : ℝ) : EReal)) (hg : g (ix2 r E) = ((γ : ℝ) : EReal)) :
    k0_pay22 (BitVec.ofNat 32 E.val) (k0_pay16 wi) (k0_pay18 wo) (k0_pay19 wo) (k0_pay20 (F := Ideal)) xq g o (ix2 r d)
      = o (ix2 r d) + ((contrib γ a W O d : ℝ) : EReal) := by
  pointwise [k0_pay22]
  rw [pick_gate (fun x => g (ix2 r x)) E, hg]
  have hh : ∀ j : Fin 1024, (∑ x, xq (ix2 r x) * k0_pay16 wi (ix2 j x)) = ((hidden a (dq2 786432 W) j : ℝ) : EReal) := by
    intro j
    simp only [ha, wIn_coe wi W hW, ← EReal.coe_mul]
    exact coe_sum _
  simp only [hh, coe_glu]
  rw [coe_rowScale, wOutScale_coe wo O hO]
  simp only [← EReal.coe_mul, coe_clip8, wOut_coe wo O hO, coe_sum]
  rw [coe_div _ _ (mul_pos (rowScale_pos _) (wScale_pos _ _)).ne', ← EReal.coe_mul]
  congr 2
  exact contrib_eq γ _ O d

/-- The second half's body is the first's. -/
theorem bot_eq_top (e : BitVec 32) (a : FVec Ideal S1024x768 .f32) (b : EReal) (c d : FVec Ideal S768x512 .f32)
    (xq : Vec Ideal S1024x768 .f32) (g : Vec Ideal S1024x8 .f32) (o : Vec Ideal S1024x768 .f32) :
    k0_pay1 e a b (k0_pay21 c d) (iota .tc S1024x8 32 [1] iota_S1024x8_d1_w32) xq g o
      = k0_pay22 e a b c d xq g o := rfl

/-- The rows of the two halves. -/
theorem top_apply (x : Vec Ideal S2048x768 .f32) (r : Fin 1024) (d : Fin 768) :
    top x (ix2 r d) = x (ix2 ⟨r.val, by have := r.isLt; omega⟩ d) := by
  refine congrArg x (funext fun k => Fin.ext ?_)
  match k with
  | ⟨0, _⟩ => show 0 + 1 * r.val = r.val; omega
  | ⟨1, _⟩ => show 0 + 1 * d.val = d.val; omega
theorem bot_apply (x : Vec Ideal S2048x768 .f32) (r : Fin 1024) (d : Fin 768) :
    bot x (ix2 r d) = x (ix2 ⟨1024 + r.val, by have := r.isLt; omega⟩ d) := by
  refine congrArg x (funext fun k => Fin.ext ?_)
  match k with
  | ⟨0, _⟩ => show 1024 + 1 * r.val = 1024 + r.val; omega
  | ⟨1, _⟩ => show 0 + 1 * d.val = d.val; omega
theorem top8_apply (x : Vec Ideal S2048x8 .f32) (r : Fin 1024) (d : Fin 8) :
    top8 x (ix2 r d) = x (ix2 ⟨r.val, by have := r.isLt; omega⟩ d) := by
  refine congrArg x (funext fun k => Fin.ext ?_)
  match k with
  | ⟨0, _⟩ => show 0 + 1 * r.val = r.val; omega
  | ⟨1, _⟩ => show 0 + 1 * d.val = d.val; omega
theorem bot8_apply (x : Vec Ideal S2048x8 .f32) (r : Fin 1024) (d : Fin 8) :
    bot8 x (ix2 r d) = x (ix2 ⟨1024 + r.val, by have := r.isLt; omega⟩ d) := by
  refine congrArg x (funext fun k => Fin.ext ?_)
  match k with
  | ⟨0, _⟩ => show 1024 + 1 * r.val = 1024 + r.val; omega
  | ⟨1, _⟩ => show 0 + 1 * d.val = d.val; omega

/-- Two halves that agree with a function of all the rows are that function, one above the other. -/
theorem stack_eq (a b : Vec Ideal S1024x768 .f32) (f : Fin 2048 → Fin 768 → EReal)
    (ha : ∀ (r : Fin 1024) d, a (ix2 r d) = f ⟨r.val, by have := r.isLt; omega⟩ d)
    (hb : ∀ (r : Fin 1024) d, b (ix2 r d) = f ⟨1024 + r.val, by have := r.isLt; omega⟩ d) (r : Fin 2048) (d : Fin 768) :
    stack a b (ix2 r d) = f r d := by
  have hr := r.isLt
  by_cases h : r.val < 1024
  · exact (dif_pos h).trans (ha ⟨r.val, h⟩ d)
  · refine (dif_neg h).trans ((hb ⟨r.val - 1024, by omega⟩ d).trans ?_)
    congr 1; exact Fin.ext (by show 1024 + (r.val - 1024) = r.val; omega)

/-- One output entry after the point. -/
theorem stepOut_coe (i : grid0.Coords) (E : Fin 8) (hE : (i 0).val = E.val) (wi : Vec Ideal S1x1024x768 .f32)
    (wo : Vec Ideal S1x768x512 .f32) (xq : Vec Ideal S2048x768 .f32) (g : Vec Ideal S2048x8 .f32)
    (o : Vec Ideal S2048x768 .f32) (W : Fin 1024 → Fin 768 → ℝ) (O : Fin 768 → Fin 512 → ℝ)
    (hW : ∀ j k, wi (ix3 0 j k) = ((W j k : ℝ) : EReal)) (hO : ∀ d k, wo (ix3 0 d k) = ((O d k : ℝ) : EReal))
    (a : Fin 2048 → Fin 768 → ℝ) (γ : Fin 2048 → ℝ) (ha : ∀ r k, xq (ix2 r k) = ((a r k : ℝ) : EReal))
    (hg : ∀ r, g (ix2 r E) = ((γ r : ℝ) : EReal)) (r : Fin 2048) (d : Fin 768) :
    stepOut i wi wo xq g o (ix2 r d) = o (ix2 r d) + ((contrib (γ r) (a r) W O d : ℝ) : EReal) := by
  have hw : pointWord i = BitVec.ofNat 32 E.val := by unfold pointWord; rw [hE]
  refine stack_eq _ _ (fun r d => o (ix2 r d) + ((contrib (γ r) (a r) W O d : ℝ) : EReal)) (fun r d => ?_) (fun r d => ?_) r d
  · unfold topOut
    rw [hw, half_coe E wi wo (top xq) (top8 g) (top o) W O hW hO r d (a ⟨r.val, by have := r.isLt; omega⟩)
      (γ ⟨r.val, by have := r.isLt; omega⟩) (fun k => (top_apply _ _ _).trans (ha _ _)) ((top8_apply _ _ _).trans (hg _)),
      top_apply]
  · unfold botOut
    rw [hw, bot_eq_top, half_coe E wi wo (bot xq) (bot8 g) (bot o) W O hW hO r d
      (a ⟨1024 + r.val, by have := r.isLt; omega⟩) (γ ⟨1024 + r.val, by have := r.isLt; omega⟩)
      (fun k => (bot_apply _ _ _).trans (ha _ _)) ((bot8_apply _ _ _).trans (hg _)), bot_apply]

/-- A half of the quantized rows. -/
theorem quantHalf_coe (v : Vec Ideal S1024x768 .f32) (X : Fin 1024 → Fin 768 → ℝ)
    (h : ∀ r k, v (ix2 r k) = ((X r k : ℝ) : EReal)) (r : Fin 1024) (k : Fin 768) :
    k0_pay15 v (ix2 r k) = ((dq8 (X r) k : ℝ) : EReal) := by
  pointwise [k0_pay15]
  simp only [h]
  rw [coe_rowScale, ← EReal.coe_mul, coe_clip8, coe_div _ _ (rowScale_pos _).ne']
  rfl

/-- The first half's quantizer is the second's. -/
theorem quantTop_eq (v : Vec Ideal S1024x768 .f32) :
    k0_pay14 (k0_pay11 v) (k0_pay12 v) (k0_pay13 (F := Ideal)) = k0_pay15 v := rfl

/-- The rows the first point quantizes. -/
theorem quantRows_coe (x : Vec Ideal S2048x768 .f32) (X : Fin 2048 → Fin 768 → ℝ)
    (h : ∀ r k, x (ix2 r k) = ((X r k : ℝ) : EReal)) (r : Fin 2048) (k : Fin 768) :
    quantRows x (ix2 r k) = ((dq8 (X r) k : ℝ) : EReal) := by
  refine stack_eq _ _ (fun r k => ((dq8 (X r) k : ℝ) : EReal)) (fun r k => ?_) (fun r k => ?_) r k
  · rw [quantTop_eq]
    exact quantHalf_coe _ (fun r => X ⟨r.val, by have := r.isLt; omega⟩) (fun r k => (top_apply _ _ _).trans (h _ _)) r k
  · exact quantHalf_coe _ (fun r => X ⟨1024 + r.val, by have := r.isLt; omega⟩) (fun r k => (bot_apply _ _ _).trans (h _ _)) r k

/-- The output's starting rows. -/
theorem biasRows_apply (b : Vec Ideal S1x768 .f32) (r : Fin 2048) (d : Fin 768) : biasRows b (ix2 r d) = b (ix2 0 d) := by
  pointwise [biasRows, k0_pay10]

end Cert.Moe

end
-- ==== Proof.Gates.lean ====
module

public import proofs.«01_k».proof.Proof.Spec
public import proofs.«01_k».proof.Proof.Route

@[expose] public section

noncomputable section

/-! The router's gates and its balancing loss over the real numbers. -/

namespace Cert.Moe

open Idealize.ShloMosaic

/-- A row's score for each expert. -/
def logit (X : Fin 2048 → Fin 768 → ℝ) (G : Fin 768 → Fin 8 → ℝ) (r : Fin 2048) (j : Fin 8) : ℝ := ∑ k, X r k * G k j

/-- The first place of a row's greatest score, -/
def best (l : Fin 8 → ℝ) : Fin 8 := first fun j => ((l j : ℝ) : EReal)
/-- and of the greatest of the rest. -/
def next (l : Fin 8 → ℝ) : Fin 8 := second fun j => ((l j : ℝ) : EReal)

theorem next_ne (l : Fin 8 → ℝ) : next l ≠ best l := second_ne _ fun j => EReal.coe_ne_bot _

/-- The gate of the best expert: the two scores' softmax. -/
def bestGate (l : Fin 8 → ℝ) : ℝ := (1 + Real.exp (-(l (best l) - l (next l))))⁻¹

/-- Every expert's gate. -/
def gate (l : Fin 8 → ℝ) (e : Fin 8) : ℝ :=
  (if e = best l then bestGate l else 0) + (if e = next l then 1 - bestGate l else 0)

/-- Every expert's probability, the softmax of all the scores. -/
def prob (l : Fin 8 → ℝ) (e : Fin 8) : ℝ := Real.exp (l e - l (best l)) / ∑ k, Real.exp (l k - l (best l))

theorem expSum_pos (l : Fin 8 → ℝ) (c : ℝ) : 0 < ∑ k, Real.exp (l k - c) :=
  Finset.sum_pos (fun k _ => Real.exp_pos _) ⟨0, Finset.mem_univ _⟩

/-- The number of the two choices that fall on expert `e`. -/
def chosen (l : Fin 8 → ℝ) (e : Fin 8) : ℝ := (if e = best l then 1 else 0) + (if e = next l then 1 else 0)

/-- The balancing loss. -/
def lossR (l : Fin 2048 → Fin 8 → ℝ) : ℝ :=
  8 * ∑ e, (∑ r, prob (l r) e) / 2048 * ((∑ r, chosen (l r) e) / 4096)

end Cert.Moe

end
-- ==== Proof.Router.lean ====
module

public import proofs.«01_k».proof.Proof.Step
public import proofs.«01_k».proof.Proof.Gates

@[expose] public section

set_option maxRecDepth 16384

noncomputable section

/-! The first point's router over the extended reals, on finite blocks: the gates and the loss. -/

namespace Cert.Moe

open Cert.KernelIdeal Cert.KernelIdeal.Gen Idealize.ShloMosaic

/-- A mask's bit as a number. -/
theorem mask_coe (p : Prop) [Decidable p] :
    (FloatOps.sitofp (F := Ideal) .f32 (BitVec.setWidth 32 (BitVec.ofBool (decide p))) : EReal)
      = (((if p then 1 else 0 : ℝ)) : EReal) := by
  show (((((BitVec.setWidth 32 (BitVec.ofBool (decide p))).toInt : ℤ) : ℝ)) : EReal) = _
  by_cases h : p <;> simp [h]

variable (x : Vec Ideal S2048x768 .f32) (wg : Vec Ideal S768x8 .f32) (X : Fin 2048 → Fin 768 → ℝ)
  (G : Fin 768 → Fin 8 → ℝ) (hx : ∀ r k, x (ix2 r k) = ((X r k : ℝ) : EReal)) (hg : ∀ k j, wg (ix2 k j) = ((G k j : ℝ) : EReal))

include hx hg

/-- The scores. -/
theorem score_coe (r : Fin 2048) (j : Fin 8) : k0_pay2 x wg (ix2 r j) = ((logit X G r j : ℝ) : EReal) := by
  pointwise [k0_pay2]
  simp only [hx, hg, ← EReal.coe_mul]
  exact coe_sum _

/-- A row's greatest score, -/
theorem best_coe (r : Fin 2048) : k0_pay3 x wg (ix2 r 0) = ((logit X G r (best (logit X G r)) : ℝ) : EReal) := by
  pointwise [k0_pay3]
  simp only [score_coe x wg X G hx hg, lit_bot]
  exact fold_max_eq _

/-- the mask of its first place, -/
theorem bestMask (r : Fin 2048) (j : Fin 8) :
    k0_pay4 x wg (ix2 r j) = BitVec.ofBool (decide (j = best (logit X G r))) := by
  pointwise [k0_pay4]
  simp only [score_coe x wg X G hx hg, best_coe x wg X G hx hg]
  rw [fold_place_eq (fun j => ((logit X G r j : ℝ) : EReal)) ((logit X G r (best (logit X G r)) : ℝ) : EReal) rfl]
  exact place_eq _ _

/-- the scores without it, -/
theorem rest_coe (r : Fin 2048) (j : Fin 8) :
    k0_pay5 x wg (ix2 r j) = rest (fun j => ((logit X G r j : ℝ) : EReal)) j := by
  pointwise [k0_pay5]
  rw [bestMask x wg X G hx hg, select_ofBool, score_coe x wg X G hx hg, lit_bot]
  rfl

/-- the greatest of those, -/
theorem next_coe (r : Fin 2048) : k0_pay6 x wg (ix2 r 0) = ((logit X G r (next (logit X G r)) : ℝ) : EReal) := by
  pointwise [k0_pay6]
  simp only [rest_coe x wg X G hx hg, lit_bot]
  rw [fold_max_eq]
  exact rest_second (fun j => ((logit X G r j : ℝ) : EReal)) fun j => EReal.coe_ne_bot _

/-- and the mask of its first place. -/
theorem nextMask (r : Fin 2048) (j : Fin 8) :
    k0_pay7 x wg (ix2 r j) = BitVec.ofBool (decide (j = next (logit X G r))) := by
  have hn : k0_pay6 x wg (ix2 r 0) = rest (fun j => ((logit X G r j : ℝ) : EReal)) (next (logit X G r)) := by
    rw [next_coe x wg X G hx hg]
    exact (rest_second (fun j => ((logit X G r j : ℝ) : EReal)) fun j => EReal.coe_ne_bot _).symm
  pointwise [k0_pay7]
  simp only [rest_coe x wg X G hx hg, hn]
  rw [fold_place_eq (rest fun j => ((logit X G r j : ℝ) : EReal))
    (rest (fun j => ((logit X G r j : ℝ) : EReal)) (next (logit X G r))) rfl]
  exact place_eq _ _

/-- The gates. -/
theorem gateRows_coe (r : Fin 2048) (e : Fin 8) : gateRows x wg (ix2 r e) = ((gate (logit X G r) e : ℝ) : EReal) := by
  pointwise [gateRows, k0_pay8]
  rw [bestMask x wg X G hx hg, nextMask x wg X G hx hg, best_coe x wg X G hx hg, next_coe x wg X G hx hg,
    select_ofBool, select_ofBool, ← EReal.coe_sub, Ideal.logistic_coe, ← EReal.coe_one, ← EReal.coe_sub, ← EReal.coe_zero,
    ← apply_ite, ← apply_ite, ← EReal.coe_add]
  rfl

/-- The loss. -/
theorem lossOf_coe : lossOf x wg (ix2 0 0) = ((lossR (logit X G) : ℝ) : EReal) := by
  pointwise [lossOf, k0_pay9]
  simp only [score_coe x wg X G hx hg, best_coe x wg X G hx hg, bestMask x wg X G hx hg, nextMask x wg X G hx hg,
    mask_coe, ← EReal.coe_sub, Ideal.exp_coe, ← EReal.coe_add, coe_sum, lit_2048, lit_4096, lit_8]
  simp only [coe_div _ _ (expSum_pos _ _).ne', coe_sum, coe_div _ (2048 : ℝ) (by norm_num), coe_div _ (4096 : ℝ) (by norm_num),
    ← EReal.coe_mul]
  rfl

end Cert.Moe

end
-- ==== Proof.KernelOut.lean ====
module

public import proofs.«01_k».proof.Proof.Results
public import proofs.«01_k».proof.Proof.Expert
public import proofs.«01_k».proof.Proof.Router
public import Idealize.ShloMosaic.Lib.Pointwise.IndexBridge

@[expose] public section

set_option maxRecDepth 16384

noncomputable section

/-! The kernel's two results over the extended reals, on finite arguments. -/

namespace Cert.Moe

open Cert.KernelIdeal Cert.KernelIdeal.Gen Idealize.ShloMosaic Idealize.ShloMosaic.TcCoe
open Idealize.ShloMosaic.Pipeline (Dat Cfg Window)

/-- The rows without their leading axis. -/
theorem rows_cast (x : Vec Ideal S1x2048x768 .f32) (r : Fin 2048) (k : Fin 768) :
    shapeCast S2048x768 x shapeCasts_S1x2048x768_S2048x768 (ix2 r k) = x (ix3 0 r k) := by
  pointwise []

variable (m : (ℓ : Loc nD τ sig) → Buf (Elt Ideal) ℓ) (c : Dev nD) (x0 : Vec Ideal S1x2048x768 .f32) (x1 : Vec Ideal S768x8 .f32)
  (x2 : Vec Ideal S8x1024x768 .f32) (x3 : Vec Ideal S8x768x512 .f32) (x4 : Vec Ideal S768 .f32)
  (h0 : m ((c : Thread nD τ).loc main_arg0) = x0) (h1 : m ((c : Thread nD τ).loc main_arg1) = x1)
  (h2 : m ((c : Thread nD τ).loc main_arg2) = x2) (h3 : m ((c : Thread nD τ).loc main_arg3) = x3)
  (h4 : m ((c : Thread nD τ).loc main_arg4) = x4) (X : Fin 2048 → Fin 768 → ℝ) (G : Fin 768 → Fin 8 → ℝ)
  (WI : Fin 8 → Fin 1024 → Fin 768 → ℝ) (WO : Fin 8 → Fin 768 → Fin 512 → ℝ)
  (hx : ∀ r k, x0 (ix3 0 r k) = ((X r k : ℝ) : EReal)) (hg : ∀ k j, x1 (ix2 k j) = ((G k j : ℝ) : EReal))
  (hi : ∀ e j k, x2 (ix3 e j k) = ((WI e j k : ℝ) : EReal)) (ho : ∀ e d k, x3 (ix3 e d k) = ((WO e d k : ℝ) : EReal))

/-- The rows the body reads, -/
theorem rows_coe (h0 : m ((c : Thread nD τ).loc main_arg0) = x0) (hx : ∀ r k, x0 (ix3 0 r k) = ((X r k : ℝ) : EReal))
    (r : Fin 2048) (k : Fin 768) : (iblk m c 0 t0 : Vec Ideal S2048x768 .f32) (ix2 r k) = ((X r k : ℝ) : EReal) := by
  rw [block_0, V_main_v0, h0]
  exact (rows_cast x0 r k).trans (hx r k)

/-- the router's weights, -/
theorem router_coe (h1 : m ((c : Thread nD τ).loc main_arg1) = x1) (hg : ∀ k j, x1 (ix2 k j) = ((G k j : ℝ) : EReal))
    (k : Fin 768) (j : Fin 8) : (iblk m c 1 t0 : Vec Ideal S768x8 .f32) (ix2 k j) = ((G k j : ℝ) : EReal) := by
  rw [block_1, V_main_arg1, h1]
  exact hg k j

/-- the bias, -/
theorem bias_eq (h4 : m ((c : Thread nD τ).loc main_arg4) = x4) (d : Fin 768) :
    (iblk m c 4 t0 : Vec Ideal S1x768 .f32) (ix2 0 d) = x4 (ix1 d) := by
  rw [block_4, V_main_v1, h4]
  pointwise []

/-- and at point `t` expert `t`'s two weights. -/
theorem weightIn_coe (h2 : m ((c : Thread nD τ).loc main_arg2) = x2) (hi : ∀ e j k, x2 (ix3 e j k) = ((WI e j k : ℝ) : EReal))
    (t : Fin cfg0.N) (j : Fin 1024) (k : Fin 768) :
    (iblk m c 2 t : Vec Ideal S1x1024x768 .f32) (ix3 0 j k) = ((WI ⟨t.val, points_lt t⟩ j k : ℝ) : EReal) := by
  rw [block_2, V_main_arg2, h2, ← hi]
  exact congrArg x2 (ix3_eq_valueIdx _ _ _).symm

theorem weightOut_coe (h3 : m ((c : Thread nD τ).loc main_arg3) = x3) (ho : ∀ e d k, x3 (ix3 e d k) = ((WO e d k : ℝ) : EReal))
    (t : Fin cfg0.N) (d : Fin 768) (k : Fin 512) :
    (iblk m c 3 t : Vec Ideal S1x768x512 .f32) (ix3 0 d k) = ((WO ⟨t.val, points_lt t⟩ d k : ℝ) : EReal) := by
  rw [block_3, V_main_arg3, h3, ← ho]
  exact congrArg x3 (ix3_eq_valueIdx _ _ _).symm

/-- The grid's points count the experts. -/
theorem coords_val : ∀ t : Fin cfg0.N, (grid0.coords t 0).val = t.val := by decide +kernel

include h0 h1 h2 h3 h4 hx hg hi ho

/-- After point `n` the output holds the bias and the first `n + 1` experts' contributions. -/
theorem outAt_coe (r : Fin 2048) (d : Fin 768) : ∀ (n : ℕ) (h : n < cfg0.N), outAt m c n h (ix2 r d)
    = x4 (ix1 d) + ∑ e : Fin (n + 1), ((contrib (gate (logit X G r) ⟨e.val, Nat.lt_of_lt_of_le e.isLt (points_lt ⟨n, h⟩)⟩)
        (dq8 (X r)) (WI ⟨e.val, Nat.lt_of_lt_of_le e.isLt (points_lt ⟨n, h⟩)⟩)
        (WO ⟨e.val, Nat.lt_of_lt_of_le e.isLt (points_lt ⟨n, h⟩)⟩) d : ℝ) : EReal) := by
  have hs : ∀ (t : Fin cfg0.N) (o : Vec Ideal S2048x768 .f32),
      stepOut (grid0.coords t) (iblk m c 2 t) (iblk m c 3 t) (xqAt m c) (gAt m c) o (ix2 r d)
        = o (ix2 r d) + ((contrib (gate (logit X G r) ⟨t.val, points_lt t⟩) (dq8 (X r)) (WI ⟨t.val, points_lt t⟩)
          (WO ⟨t.val, points_lt t⟩) d : ℝ) : EReal) := fun t o =>
    stepOut_coe (grid0.coords t) ⟨t.val, points_lt t⟩ (coords_val t) _ _ _ _ o _ _ (weightIn_coe m c x2 WI h2 hi t)
      (weightOut_coe m c x3 WO h3 ho t) (fun r => dq8 (X r)) (fun r => gate (logit X G r) ⟨t.val, points_lt t⟩)
      (quantRows_coe _ X (rows_coe m c x0 X h0 hx))
      (fun r => gateRows_coe _ _ X G (rows_coe m c x0 X h0 hx) (router_coe m c x1 G h1 hg) r _) r d
  intro n
  induction n with
  | zero =>
    intro h
    rw [outAt, hs, biasRows_apply, bias_eq m c x4 h4, Fin.sum_univ_one]
    rfl
  | succ n ih =>
    intro h
    rw [outAt, hs, ih, add_assoc]
    refine congrArg (x4 (ix1 d) + ·) ?_
    refine Eq.trans ?_ (Fin.sum_univ_castSucc _).symm
    rfl

/-- The first result: the bias and the experts' contributions. -/
theorem result0_coe (r : Fin 2048) (d : Fin 768) : result0 m c (ix3 0 r d)
    = x4 (ix1 d) + ∑ e : Fin 8, ((contrib (gate (logit X G r) e) (dq8 (X r)) (WI e) (WO e) d : ℝ) : EReal) := by
  have h := outAt_coe m c x0 x1 x2 x3 x4 h0 h1 h2 h3 h4 X G WI WO hx hg hi ho r d 7 t7.isLt
  unfold result0
  generalize outAt m c 7 t7.isLt = o at h ⊢
  pointwise []
  exact h

omit h2 h3 h4 hi ho

/-- The second: the router's loss. -/
theorem result1_coe : result1 m c = fun _ => ((lossR (logit X G) : ℝ) : EReal) := by
  have h := lossOf_coe (iblk m c 0 t0) (iblk m c 1 t0) X G (rows_coe m c x0 X h0 hx) (router_coe m c x1 G h1 hg)
  funext i
  unfold result1 lossAt
  generalize lossOf (iblk m c 0 t0) (iblk m c 1 t0) = o at h ⊢
  pointwise []
  exact h

end Cert.Moe

end
-- ==== Proof.RefBase.lean ====
module

public import proofs.«01_k».proof.Proof.Spec

@[expose] public section

noncomputable section

/-! How the reference passes a rounded number on: the number itself plus its distance to the rounded one. -/

namespace Cert.Moe.Ref

open Idealize.ShloMosaic

/-- A number and its distance to another make that other. -/
theorem through (a b : ℝ) : ((a : ℝ) : EReal) + (((b : ℝ) : EReal) - ((a : ℝ) : EReal)) = ((b : ℝ) : EReal) := by
  rw [← EReal.coe_sub, ← EReal.coe_add, add_sub_cancel]

end Cert.Moe.Ref

end
-- ==== Proof.RefQuant.lean ====
module

public import proofs.«01_k».proof.Proof.RefBase
public import proofs.«01_k».proof.Proof.Gen.ReferenceIdeal.Read

@[expose] public section

set_option maxRecDepth 16384

noncomputable section

/-! The reference's quantizers over the extended reals, on finite arguments: the two weights; and the input's rows. -/

namespace Cert.Moe.Ref

open Idealize.ShloMosaic Cert.ReferenceIdeal Cert.ReferenceIdeal.Gen Cert.ReferenceIdeal.Read

/-- The input's rows. -/
theorem rows_eq (x0 : (⟨S1x2048x768, .f32⟩ : BufTy).Contents (Elt Ideal)) (X : Fin 2048 → Fin 768 → ℝ)
    (hx : ∀ r k, x0 (ix3 0 r k) = ((X r k : ℝ) : EReal)) (r : Fin 2048) (k : Fin 768) :
    val_main_v0 (F := Ideal) x0 (ix2 r k) = ((X r k : ℝ) : EReal) := by
  pointwise [val_main_v0]
  exact hx r k

/-- Expert `e`'s first weight: its scale, -/
theorem wInScale_eq (x2 : (⟨S8x1024x768, .f32⟩ : BufTy).Contents (Elt Ideal)) (W : Fin 8 → Fin 1024 → Fin 768 → ℝ)
    (hw : ∀ e j k, x2 (ix3 e j k) = ((W e j k : ℝ) : EReal)) (e : Fin 8) :
    val_main_v78 (F := Ideal) x2 (ix3 e 0 0) = ((wScale 786432 (W e) : ℝ) : EReal) := by
  pointwise [val_main_v78, val_main_v77, val_main_v76, val_main_v75, val_main_v74, val_main_v73, val_main_v72, val_main_v71, val_main_v70,
    val_main_cst_22, val_main_cst_23, val_main_cst_24, val_main_cst_25]
  simp only [hw]
  rw [lit_in]
  exact coe_wScale _ (by norm_num) (W e)

/-- and its entries in the three values, brought back. -/
theorem wIn_eq (x2 : (⟨S8x1024x768, .f32⟩ : BufTy).Contents (Elt Ideal)) (W : Fin 8 → Fin 1024 → Fin 768 → ℝ)
    (hw : ∀ e j k, x2 (ix3 e j k) = ((W e j k : ℝ) : EReal)) (e : Fin 8) (j : Fin 1024) (k : Fin 768) :
    val_main_v86 (F := Ideal) x2 (ix3 e j k) = ((dq2 786432 (W e) j k : ℝ) : EReal) := by
  pointwise [val_main_v86, val_main_v85, val_main_v84, val_main_v83, val_main_v82, val_main_v81, val_main_v80, val_main_v79,
    val_main_call4_v0, val_main_call4_v1, val_main_call4_v2, val_main_call4_v3, val_main_call4_v4,
    val_main_cst_26, val_main_cst_27, id]
  rw [hw, wInScale_eq x2 W hw, ← EReal.coe_mul, coe_clip1, coe_div _ _ (wScale_pos _ _).ne', through]
  rfl

/-- Expert `e`'s second weight: its scale, -/
theorem wOutScale_eq (x3 : (⟨S8x768x512, .f32⟩ : BufTy).Contents (Elt Ideal)) (W : Fin 8 → Fin 768 → Fin 512 → ℝ)
    (hw : ∀ e j k, x3 (ix3 e j k) = ((W e j k : ℝ) : EReal)) (e : Fin 8) :
    val_main_v95 (F := Ideal) x3 (ix3 e 0 0) = ((wScale 393216 (W e) : ℝ) : EReal) := by
  pointwise [val_main_v95, val_main_v94, val_main_v93, val_main_v92, val_main_v91, val_main_v90, val_main_v89, val_main_v88, val_main_v87,
    val_main_cst_28, val_main_cst_29, val_main_cst_30, val_main_cst_31]
  simp only [hw]
  rw [lit_out]
  exact coe_wScale _ (by norm_num) (W e)

/-- and its entries in the three values, brought back. -/
theorem wOut_eq (x3 : (⟨S8x768x512, .f32⟩ : BufTy).Contents (Elt Ideal)) (W : Fin 8 → Fin 768 → Fin 512 → ℝ)
    (hw : ∀ e j k, x3 (ix3 e j k) = ((W e j k : ℝ) : EReal)) (e : Fin 8) (j : Fin 768) (k : Fin 512) :
    val_main_v103 (F := Ideal) x3 (ix3 e j k) = ((dq2 393216 (W e) j k : ℝ) : EReal) := by
  pointwise [val_main_v103, val_main_v102, val_main_v101, val_main_v100, val_main_v99, val_main_v98, val_main_v97, val_main_v96,
    val_main_call6_v0, val_main_call6_v1, val_main_call6_v2, val_main_call6_v3, val_main_call6_v4,
    val_main_cst_32, val_main_cst_33, id]
  rw [hw, wOutScale_eq x3 W hw, ← EReal.coe_mul, coe_clip1, coe_div _ _ (wScale_pos _ _).ne', through]
  rfl

end Cert.Moe.Ref

end
-- ==== Proof.RefInput.lean ====
module

public import proofs.«01_k».proof.Proof.RefQuant

@[expose] public section

set_option maxRecDepth 16384

noncomputable section

/-! The reference's quantized input. -/

namespace Cert.Moe.Ref

open Idealize.ShloMosaic Cert.ReferenceIdeal Cert.ReferenceIdeal.Gen Cert.ReferenceIdeal.Read

section Block

variable {F : FTy → Type} [FloatOps F]

/-- The scales of the input's rows. -/
def scaleIn (a : Vec F S2048x768 .f32) : Vec F S2048x1 .f32 :=
  Host.divf (broadcastInDim S2048x1 ![] bcast_S_S2048x1 (constant S_ .f32 0x42FE0000#32))
    (maximumf (broadcastInDim S2048x1 ![0] bcast_S2048_S2048x1_0
      (Host.reduce FloatOps.maximumf (Host.absf a) (constant S_ .f32 0xFF800000#32) reducesTo_S2048x768_S2048_d1 h_S_))
        (broadcastInDim S2048x1 ![] bcast_S_S2048x1 (constant S_ .f32 0x3727C5AC#32)))

/-- The input's rows `a`, quantized at the scales `s` and brought back. -/
def backIn (s : Vec F S2048x1 .f32) (a : Vec F S2048x768 .f32) : Vec F S2048x768 .f32 :=
  addf a (subf (Host.divf (minimumf (broadcastInDim S2048x768 ![] bcast_S_S2048x768 (constant S_ .f32 0x42FE0000#32))
    (maximumf (broadcastInDim S2048x768 ![] bcast_S_S2048x768 (constant S_ .f32 0xC3000000#32))
      (Host.roundeven (mulf a (broadcastInDim S2048x768 ![0, 1] bcast_S2048x1_S2048x768_0_1 s)))))
        (broadcastInDim S2048x768 ![0, 1] bcast_S2048x1_S2048x768_0_1 s)) a)

end Block

/-- The scales. -/
theorem scaleIn_coe (a : Vec Ideal S2048x768 .f32) (X : Fin 2048 → Fin 768 → ℝ)
    (ha : ∀ r k, a (ix2 r k) = ((X r k : ℝ) : EReal)) (r : Fin 2048) :
    scaleIn a (ix2 r 0) = ((rowScale (X r) : ℝ) : EReal) := by
  pointwise [scaleIn]
  simp only [ha]
  rw [coe_rowScale (X r)]

/-- The rows at given scales. -/
theorem backIn_coe (s : Vec Ideal S2048x1 .f32) (a : Vec Ideal S2048x768 .f32) (X : Fin 2048 → Fin 768 → ℝ)
    (hs : ∀ r, s (ix2 r 0) = ((rowScale (X r) : ℝ) : EReal)) (ha : ∀ r k, a (ix2 r k) = ((X r k : ℝ) : EReal))
    (r : Fin 2048) (k : Fin 768) : backIn s a (ix2 r k) = ((dq8 (X r) k : ℝ) : EReal) := by
  pointwise [backIn]
  rw [ha, hs, ← EReal.coe_mul, coe_clip8, coe_div _ _ (rowScale_pos _).ne', through]
  rfl

/-- The reference's quantized input is those rows. -/
theorem input_def {F : FTy → Type} [FloatOps F] (x0 : (⟨S1x2048x768, .f32⟩ : BufTy).Contents (Elt F)) :
    val_main_v69 (F := F) x0 = backIn (scaleIn (val_main_v0 (F := F) x0)) (val_main_v0 (F := F) x0) := rfl

/-- The input's rows, quantized and brought back. -/
theorem input_eq (x0 : (⟨S1x2048x768, .f32⟩ : BufTy).Contents (Elt Ideal)) (X : Fin 2048 → Fin 768 → ℝ)
    (hx : ∀ r k, x0 (ix3 0 r k) = ((X r k : ℝ) : EReal)) (r : Fin 2048) (k : Fin 768) :
    val_main_v69 (F := Ideal) x0 (ix2 r k) = ((dq8 (X r) k : ℝ) : EReal) := by
  rw [input_def]
  exact backIn_coe _ _ X (scaleIn_coe _ X (rows_eq x0 X hx)) (rows_eq x0 X hx) r k

end Cert.Moe.Ref

end
-- ==== Proof.RefExpert.lean ====
module

public import proofs.«01_k».proof.Proof.RefBase
public import proofs.«01_k».proof.Proof.Gen.ReferenceIdeal.Read

@[expose] public section

set_option maxRecDepth 16384

noncomputable section

/-! One expert of the reference, for any of the eight, and its value over the extended reals on finite arguments. -/

namespace Cert.Moe.Ref

open Idealize.ShloMosaic Cert.ReferenceIdeal Cert.ReferenceIdeal.Gen Cert.ReferenceIdeal.Read

section Block

variable {F : FTy → Type} [FloatOps F]

/-- The expert's two projections of the quantized rows. -/
def hiddenRows (e : ℕ) (hs : S8x1024x768.Slices ![e, 0, 0] S1x1024x768) (wq : Vec F S8x1024x768 .f32) (xq : Vec F S2048x768 .f32) :
    Vec F S2048x1024 .f32 :=
  Host.dotGeneral dot_S2048x768_S768x1024_S2048x1024_1_0_0_1_n_n none xq
    (transpose S768x1024 [1, 0] (shapeCast S1024x768 (extractStridedSlice S1x1024x768 ![e, 0, 0] wq hs)
      shapeCasts_S1x1024x768_S1024x768) transposes_S1024x768_S768x1024_1_0)

/-- The literal `b` in each of the half's entries. -/
def lit (b : BitVec 32) : Vec F S2048x512 .f32 := broadcastInDim S2048x512 ![] bcast_S_S2048x512 (constant S_ .f32 b)

/-- The literal `b` once for each row. -/
def litRow (b : BitVec 32) : Vec F S2048x1 .f32 := broadcastInDim S2048x1 ![] bcast_S_S2048x1 (constant S_ .f32 b)

/-- The gated product of the two halves. -/
def gluRows (h : Vec F S2048x1024 .f32) : Vec F S2048x512 .f32 :=
  mulf (mulf (extractStridedSlice S2048x512 ![0, 0] h slices_S2048x1024_S2048x512_0_0)
      (Host.divf (lit 0x3F800000#32) (addf (lit 0x3F800000#32)
        (Host.exp (Host.negf (extractStridedSlice S2048x512 ![0, 0] h slices_S2048x1024_S2048x512_0_0))))))
    (extractStridedSlice S2048x512 ![0, 512] h slices_S2048x1024_S2048x512_0_512)

/-- The scales of its rows. -/
def scaleRows (a : Vec F S2048x512 .f32) : Vec F S2048x1 .f32 :=
  Host.divf (litRow 0x42FE0000#32) (maximumf (broadcastInDim S2048x1 ![0] bcast_S2048_S2048x1_0
    (Host.reduce FloatOps.maximumf (Host.absf a) (constant S_ .f32 0xFF800000#32) reducesTo_S2048x512_S2048_d1 h_S_))
      (litRow 0x3727C5AC#32))

/-- The rows quantized and brought back. -/
def backRows (a : Vec F S2048x512 .f32) : Vec F S2048x512 .f32 :=
  addf a (subf (Host.divf (minimumf (lit 0x42FE0000#32) (maximumf (lit 0xC3000000#32)
    (Host.roundeven (mulf a (broadcastInDim S2048x512 ![0, 1] bcast_S2048x1_S2048x512_0_1 (scaleRows a))))))
      (broadcastInDim S2048x512 ![0, 1] bcast_S2048x1_S2048x512_0_1 (scaleRows a))) a)

/-- The expert's contribution: its output rows, each times its gate. -/
def expertRows (e : ℕ) (ho : S8x768x512.Slices ![e, 0, 0] S1x768x512) (hg : S2048x8.Slices ![0, e] S2048x1)
    (wq : Vec F S8x768x512 .f32) (g : Vec F S2048x8 .f32) (a : Vec F S2048x512 .f32) : Vec F S2048x768 .f32 :=
  mulf (broadcastInDim S2048x768 ![0, 1] bcast_S2048x1_S2048x768_0_1 (extractStridedSlice S2048x1 ![0, e] g hg))
    (Host.dotGeneral dot_S2048x512_S512x768_S2048x768_1_0_0_1_n_n none a
      (transpose S512x768 [1, 0] (shapeCast S768x512 (extractStridedSlice S1x768x512 ![e, 0, 0] wq ho)
        shapeCasts_S1x768x512_S768x512) transposes_S768x512_S512x768_1_0))

end Block

/-- The two projections. -/
theorem hiddenRows_coe (e : Fin 8) (hs : S8x1024x768.Slices ![e.val, 0, 0] S1x1024x768) (wq : Vec Ideal S8x1024x768 .f32)
    (xq : Vec Ideal S2048x768 .f32) (W : Fin 1024 → Fin 768 → ℝ) (a : Fin 2048 → Fin 768 → ℝ)
    (hw : ∀ j k, wq (ix3 e j k) = ((W j k : ℝ) : EReal)) (ha : ∀ r k, xq (ix2 r k) = ((a r k : ℝ) : EReal))
    (r : Fin 2048) (j : Fin 1024) : hiddenRows e.val hs wq xq (ix2 r j) = ((hidden (a r) W j : ℝ) : EReal) := by
  pointwise [hiddenRows]
  simp only [hw, ha, ← EReal.coe_mul]
  exact coe_sum _

/-- The gated product. -/
theorem gluRows_coe (h : Vec Ideal S2048x1024 .f32) (H : Fin 2048 → Fin 1024 → ℝ)
    (hh : ∀ r j, h (ix2 r j) = ((H r j : ℝ) : EReal)) (r : Fin 2048) (j : Fin 512) :
    gluRows h (ix2 r j) = ((glu (H r) j : ℝ) : EReal) := by
  pointwise [gluRows, lit]
  simp only [hh]
  exact coe_glu (H r) j

/-- The rows quantized and brought back. -/
theorem backRows_coe (a : Vec Ideal S2048x512 .f32) (A : Fin 2048 → Fin 512 → ℝ)
    (ha : ∀ r k, a (ix2 r k) = ((A r k : ℝ) : EReal)) (r : Fin 2048) (k : Fin 512) :
    backRows a (ix2 r k) = ((dq8 (A r) k : ℝ) : EReal) := by
  pointwise [backRows, scaleRows, lit, litRow]
  simp only [ha]
  rw [coe_rowScale (A r), ← EReal.coe_mul, coe_clip8, coe_div _ _ (rowScale_pos _).ne', through]
  rfl

/-- The contribution. -/
theorem expertRows_coe (e : Fin 8) (ho : S8x768x512.Slices ![e.val, 0, 0] S1x768x512) (hs : S2048x8.Slices ![0, e.val] S2048x1)
    (wq : Vec Ideal S8x768x512 .f32) (g : Vec Ideal S2048x8 .f32) (a : Vec Ideal S2048x512 .f32) (W : Fin 768 → Fin 512 → ℝ)
    (γ : Fin 2048 → ℝ) (A : Fin 2048 → Fin 512 → ℝ) (hw : ∀ d k, wq (ix3 e d k) = ((W d k : ℝ) : EReal))
    (hg : ∀ r, g (ix2 r e) = ((γ r : ℝ) : EReal)) (ha : ∀ r k, a (ix2 r k) = ((A r k : ℝ) : EReal)) (r : Fin 2048) (d : Fin 768) :
    expertRows e.val ho hs wq g a (ix2 r d) = ((γ r * ∑ k, A r k * W d k : ℝ) : EReal) := by
  pointwise [expertRows]
  simp only [hw, ha, hg, ← EReal.coe_mul]
  rw [coe_sum, ← EReal.coe_mul]

end Cert.Moe.Ref

end
-- ==== Proof.Choice.lean ====
module

public import proofs.«01_k».proof.Proof.Gates
public import Idealize.ShloMosaic.Lib.Pointwise
public import Idealize.ShloMosaic.Lib.SortPrefix
public import Idealize.ShloMosaic.Lib.SortFacts
public import proofs.«01_k».proof.Proof.Gen.ReferenceIdeal.Read

@[expose] public section

set_option maxRecDepth 16384

noncomputable section

/-! The reference's choice: its stable sort by score puts the first place of the greatest score first and the first place
of the greatest of the rest second, and its scatter adds each choice's gate into its own cell. -/

namespace Cert.Moe

open Idealize.ShloMosaic Cert.ReferenceIdeal Cert.ReferenceIdeal.Gen

/-- On positions in ascending order two orders that differ only where the second place comes first sort alike. -/
theorem stableSort_eq_of_ascending {n : ℕ} (R B : Fin n → Fin n → Bool) (h : ∀ a b, a < b → R b a = B b a)
    (l : List (Fin n)) (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.1 hb))

/-- A score before another: greater, or equal and at an earlier place. -/
def ahead (f : Fin 8 → EReal) (j k : Fin 8) : Bool :=
  decide (f k < f j) || (decide (f j = f k) && decide (j < k))

theorem ahead_total (f : Fin 8 → EReal) : StrictTotalBefore (ahead f) :=
  StrictTotalBefore.of_key_then_position (fun a b : EReal => decide (b < a)) f
    (fun a => by simp) (fun a b c hab hbc => by simp only [decide_eq_true_eq] at hab hbc ⊢; exact hbc.trans hab)
    (fun a b => by simp only [decide_eq_true_eq]; rcases lt_trichotomy a b with h | h | h
                   · exact .inr (.inr h)
                   · exact .inr (.inl h)
                   · exact .inl h)

/-- The two choices in order. -/
def pick (f : Fin 8 → EReal) (t : Fin 2) : Fin 8 := if t = 0 then first f else second f

theorem first_ahead (f : Fin 8 → EReal) (p : Fin 8) : ahead f p (first f) = false := by
  unfold ahead
  simp only [Bool.or_eq_false_iff, Bool.and_eq_false_iff, decide_eq_false_iff_not, not_lt]
  refine ⟨le_first f p, ?_⟩
  by_cases h : p < first f
  · exact .inl (lt_first f p h).ne
  · exact .inr (not_lt.1 h)

theorem second_ahead (f : Fin 8 → EReal) (hf : ∀ j, f j ≠ ⊥) (p : Fin 8) (hp : p ≠ first f) :
    ahead f p (second f) = false := by
  unfold ahead
  simp only [Bool.or_eq_false_iff, Bool.and_eq_false_iff, decide_eq_false_iff_not, not_lt]
  refine ⟨le_second f hf p hp, ?_⟩
  by_cases h : p < second f
  · exact .inl (lt_second f hf p hp h).ne
  · exact .inr (not_lt.1 h)

/-- The sort by score alone, ties left in place, starts with the two choices. -/
theorem sortedFrom_pick (f : Fin 8 → EReal) (hf : ∀ j, f j ≠ ⊥) (t : Fin 2) :
    sortedFrom (fun j k : Fin 8 => FloatOps.cmpfTotal (F := Ideal) (φ := .f32) .gt (f j) (f k) == 1#1) (t.castLE (by decide))
      = pick f t := by
  have hs : sortPositions 8 (fun j k : Fin 8 => FloatOps.cmpfTotal (F := Ideal) (φ := .f32) .gt (f j) (f k) == 1#1)
      = sortPositions 8 (ahead f) := by
    refine stableSort_eq_of_ascending _ _ (fun a b hab => ?_) _ (List.pairwise_lt_finRange 8)
    show (BitVec.ofBool (decide (f a < f b)) == 1#1) = _
    unfold ahead
    rw [decide_eq_false (not_lt.2 hab.le), Bool.and_false, Bool.or_false]
    by_cases h : f a < f b <;> simp [h]
  have he : ∀ k, sortedFrom (fun j k : Fin 8 => FloatOps.cmpfTotal (F := Ideal) (φ := .f32) .gt (f j) (f k) == 1#1) k
      = sortedFrom (ahead f) k := by
    intro k; unfold sortedFrom; simp only [List.get_eq_getElem, hs]; rfl
  rw [he]
  refine (ahead_total f).sortedFrom_eq_of_prefix (by decide) (pick f) ?_ ?_ ?_ t
  · intro i j hij
    have hne := second_ne f hf
    fin_cases i <;> fin_cases j <;> simp [pick] at hij ⊢
    · exact hne hij.symm
    · exact hne hij
  · intro i j hij
    fin_cases i <;> fin_cases j <;> simp [pick] at hij ⊢
    exact first_ahead f _
  · intro i p hp
    have hp0 : p ≠ first f := fun h => hp 0 h.symm
    fin_cases i
    · exact first_ahead f p
    · exact second_ahead f hf p hp0

/-- A row's index with its second coordinate replaced. -/
theorem along_row (r : Fin 2048) (c k : Fin 8) : (ix2 r c : S2048x8.Idx).along 1 k = ix2 r k := by
  funext a
  match a with
  | ⟨0, _⟩ => rfl
  | ⟨1, _⟩ => rfl

/-- The reference's top two scores of a row, -/
theorem topK_values (x : S2048x8.Idx → EReal) (r : Fin 2048) (hf : ∀ j, x (ix2 r j) ≠ ⊥) (t : Fin 2) :
    (Host.topK S2048x2 1 (FloatOps.cmpfTotal (F := Ideal) (φ := .f32) .gt) x sliceFits_S2048x8_S2048x2).1 (ix2 r t)
      = x (ix2 r (pick (fun j => x (ix2 r j)) t)) := by
  rw [← sortedFrom_pick (fun j => x (ix2 r j)) hf t]
  pointwise [Host.topK, Host.sort2]
  simp only [along_row]
  rfl

/-- and their places. -/
theorem topK_places (x : S2048x8.Idx → EReal) (r : Fin 2048) (hf : ∀ j, x (ix2 r j) ≠ ⊥) (t : Fin 2) :
    (Host.topK S2048x2 1 (FloatOps.cmpfTotal (F := Ideal) (φ := .f32) .gt) x sliceFits_S2048x8_S2048x2).2 (ix2 r t)
      = BitVec.ofNat 32 (pick (fun j => x (ix2 r j)) t).val := by
  rw [← sortedFrom_pick (fun j => x (ix2 r j)) hf t]
  pointwise [Host.topK, Host.sort2]
  simp only [along_row]
  rfl

/-- The scatter's index words of an update. -/
theorem siIdx_eq (r : Fin 2048) (t : Fin 2) (q : Fin 2) (h : q.val < _) :
    scatter_S2048x8_S2048x2x2_S2048x2_n_01_01_2.siIdx (ix2 r t) ⟨q.val, h⟩ = ix3 r t q := by
  funext b
  match b with
  | ⟨0, _⟩ => rfl
  | ⟨1, _⟩ => rfl
  | ⟨2, _⟩ => rfl

/-- Update `(r, t)` lands at `(r', e)` exactly when its two index words, read signed, are `r'` and `e`. -/
theorem lands_iff (idx : IVec S2048x2x2 32) (r : Fin 2048) (t : Fin 2) (r' : Fin 2048) (e : Fin 8) :
    scatter_S2048x8_S2048x2x2_S2048x2_n_01_01_2.resultIdx? (ix2 r t) idx = some (ix2 r' e)
      ↔ (idx (ix3 r t 0)).toInt = r'.val ∧ (idx (ix3 r t 1)).toInt = e.val := by
  have hw : ∀ a, scatter_S2048x8_S2048x2x2_S2048x2_n_01_01_2.window (ix2 r t) a = 0 := by
    intro a
    match a with
    | ⟨0, _⟩ => rfl
    | ⟨1, _⟩ => rfl
  have h0 : scatter_S2048x8_S2048x2x2_S2048x2_n_01_01_2.start (ix2 r t) idx 0 = (idx (ix3 r t 0)).toInt := by
    exact congrArg (fun i => (idx i).toInt) (siIdx_eq r t 0 (by decide))
  have h1 : scatter_S2048x8_S2048x2x2_S2048x2_n_01_01_2.start (ix2 r t) idx 1 = (idx (ix3 r t 1)).toInt := by
    exact congrArg (fun i => (idx i).toInt) (siIdx_eq r t 1 (by decide))
  have hr := r'.isLt
  have he := e.isLt
  unfold ScatterDims.resultIdx?
  constructor
  · intro h
    split at h
    · rename_i hin
      have h' := Option.some.inj h
      have a0 := congrArg (fun i : S2048x8.Idx => (i 0).val) h'
      have a1 := congrArg (fun i : S2048x8.Idx => (i 1).val) h'
      have b0 := (hin 0).1
      have b1 := (hin 1).1
      simp only [hw, h0, h1] at a0 a1 b0 b1
      change _ = r'.val at a0
      change _ = e.val at a1
      omega
    · exact absurd h (by simp)
  · rintro ⟨e0, e1⟩
    have hin : ∀ a, 0 ≤ scatter_S2048x8_S2048x2x2_S2048x2_n_01_01_2.start (ix2 r t) idx a
          + scatter_S2048x8_S2048x2x2_S2048x2_n_01_01_2.window (ix2 r t) a
        ∧ scatter_S2048x8_S2048x2x2_S2048x2_n_01_01_2.start (ix2 r t) idx a
          + scatter_S2048x8_S2048x2x2_S2048x2_n_01_01_2.window (ix2 r t) a < S2048x8.size a := by
      intro a
      match a with
      | ⟨0, _⟩ => rw [show (⟨0, _⟩ : Fin S2048x8.rank) = 0 from rfl, hw, h0, e0]; exact ⟨by omega, by show (r'.val : ℤ) + (0 : ℕ) < (2048 : ℕ); omega⟩
      | ⟨1, _⟩ => rw [show (⟨1, _⟩ : Fin S2048x8.rank) = 1 from rfl, hw, h1, e1]; exact ⟨by omega, by show (e.val : ℤ) + (0 : ℕ) < (8 : ℕ); omega⟩
    rw [dif_pos hin]
    congr 1
    funext a
    match a with
    | ⟨0, _⟩ => exact Fin.ext (by show (_ : ℤ).toNat = r'.val; rw [show (⟨0, _⟩ : Fin S2048x8.rank) = 0 from rfl, hw, h0, e0]; omega)
    | ⟨1, _⟩ => exact Fin.ext (by show (_ : ℤ).toNat = e.val; rw [show (⟨1, _⟩ : Fin S2048x8.rank) = 1 from rfl, hw, h1, e1]; omega)

/-- Scattering each row's two numbers into the cells of its own choices. -/
theorem scatter_apply (x : FVec Ideal S2048x8 .f32) (hx : ∀ i, x i = (0 : EReal)) (idx : IVec S2048x2x2 32)
    (p : Fin 2048 → Fin 2 → Fin 8) (h0 : ∀ r t, idx (ix3 r t 0) = BitVec.ofNat 32 r.val)
    (h1 : ∀ r t, idx (ix3 r t 1) = BitVec.ofNat 32 (p r t).val) (upd : FVec Ideal S2048x2 .f32) (r : Fin 2048) (e : Fin 8) :
    Host.scatterAdd scatter_S2048x8_S2048x2x2_S2048x2_n_01_01_2 x idx upd (ix2 r e)
      = (if e = p r 0 then upd (ix2 r 0) else (0 : EReal)) + (if e = p r 1 then upd (ix2 r 1) else (0 : EReal)) := by
  show Ideal.hostScatterAdd _ x idx upd (ix2 r e) = _
  unfold Ideal.hostScatterAdd
  rw [hx, zero_add, Finset.sum_filter, sum_idx2]
  have hr : ∀ r : Fin 2048, (BitVec.ofNat 32 r.val).toInt = r.val := fun r => by
    have := r.isLt
    rw [BitVec.toInt_eq_toNat_of_lt (by rw [BitVec.toNat_ofNat]; omega), BitVec.toNat_ofNat]; omega
  have hp : ∀ c : Fin 8, (BitVec.ofNat 32 c.val).toInt = c.val := by decide
  rw [Finset.sum_eq_single r]
  · rw [Fin.sum_univ_two]
    simp only [lands_iff, h0, h1, hr, hp, true_and, Nat.cast_inj, ← Fin.ext_iff, eq_comm (a := e)]
  · intro r' _ hne
    refine Finset.sum_eq_zero fun t _ => if_neg ?_
    rw [lands_iff, h0, hr]
    exact fun h => hne (Fin.ext (by exact_mod_cast h.1))
  · exact fun h => absurd (Finset.mem_univ r) h

end Cert.Moe

end
-- ==== Proof.RefRouter.lean ====
module

public import proofs.«01_k».proof.Proof.Choice

@[expose] public section

set_option maxRecDepth 16384

noncomputable section

/-! The reference's router over the extended reals, on finite arguments: its gates and its loss. -/

namespace Cert.Moe.Ref

open Idealize.ShloMosaic Cert.ReferenceIdeal Cert.ReferenceIdeal.Gen Cert.ReferenceIdeal.Read

/-- The softmax of two numbers, the first the greater. -/
theorem softmax_two (g : Fin 2 → ℝ) (h : g 1 ≤ g 0) (t : Fin 2) :
    Ideal.div (Ideal.exp (((g t : ℝ) : EReal) - max ⊥ (Finset.univ.fold max ⊥ fun x => ((g x : ℝ) : EReal))))
        (∑ x, Ideal.exp (((g x : ℝ) : EReal) - max ⊥ (Finset.univ.fold max ⊥ fun x => ((g x : ℝ) : EReal))))
      = (((if t = 0 then (1 + Real.exp (-(g 0 - g 1)))⁻¹ else 1 - (1 + Real.exp (-(g 0 - g 1)))⁻¹) : ℝ) : EReal) := by
  have hm : (Finset.univ.fold max (⊥ : EReal) fun x => ((g x : ℝ) : EReal)) = ((g 0 : ℝ) : EReal) := by
    refine le_antisymm ((Finset.fold_max_le _).2 ⟨bot_le, fun x _ => EReal.coe_le_coe_iff.2 ?_⟩)
      ((Finset.le_fold_max _).2 (.inr ⟨0, Finset.mem_univ _, le_rfl⟩))
    match x with
    | 0 => exact le_rfl
    | 1 => exact h
  have hp : 0 < Real.exp (g 1 - g 0) := Real.exp_pos _
  have hd : (1 + Real.exp (g 1 - g 0)) ≠ 0 := by positivity
  rw [hm, max_eq_right bot_le]
  simp only [← EReal.coe_sub, Ideal.exp_coe, coe_sum, Fin.sum_univ_two, sub_self, Real.exp_zero]
  rw [coe_div _ _ hd, neg_sub]
  match t with
  | 0 => rw [if_pos rfl, sub_self, Real.exp_zero, one_div]
  | 1 =>
    rw [if_neg (by decide)]
    congr 1
    field_simp
    ring

/-- A word that names a small natural number is not negative. -/
theorem select_slt {n : ℕ} (hn : n < 2 ^ 31) (a b : BitVec 32) :
    Scalar.select (IntOp.cmpi .slt (BitVec.ofNat 32 n) 0#32) a b = b := by
  have h : (BitVec.ofNat 32 n).slt 0#32 = false := by
    have h0 : (BitVec.ofNat 32 n).toInt = n := by
      rw [BitVec.toInt_eq_toNat_cond, BitVec.toNat_ofNat, Nat.mod_eq_of_lt (by omega), if_pos (by omega)]
    rw [BitVec.slt, decide_eq_false_iff_not, h0]
    simp
  show Scalar.select (BitVec.ofBool _) a b = b
  rw [h]
  rfl

/-- A choice's bit as a number. -/
theorem bit_coe (p : Prop) [Decidable p] :
    (FloatOps.uitofp (F := Ideal) .f32 (BitVec.ofBool (decide p)) : EReal) = (((if p then 1 else 0 : ℝ)) : EReal) := by
  show (((((BitVec.ofBool (decide p)).toNat : ℕ) : ℝ)) : EReal) = _
  by_cases h : p <;> simp [h]

/-- The greatest of a row's scores, taken twice over. -/
theorem peak_coe (l : Fin 8 → ℝ) :
    max ⊥ (Finset.univ.fold max (⊥ : EReal) fun x => ((l x : ℝ) : EReal)) = ((l (best l) : ℝ) : EReal) := by
  rw [fold_max_eq, max_eq_right bot_le]
  rfl

variable (x0 : (⟨S1x2048x768, .f32⟩ : BufTy).Contents (Elt Ideal)) (x1 : (⟨S768x8, .f32⟩ : BufTy).Contents (Elt Ideal))
  (X : Fin 2048 → Fin 768 → ℝ) (G : Fin 768 → Fin 8 → ℝ) (hx : ∀ r k, x0 (ix3 0 r k) = ((X r k : ℝ) : EReal))
  (hg : ∀ k j, x1 (ix2 k j) = ((G k j : ℝ) : EReal))

include hx hg

/-- The scores. -/
theorem score_coe (r : Fin 2048) (j : Fin 8) : val_main_v1 (F := Ideal) x0 x1 (ix2 r j) = ((logit X G r j : ℝ) : EReal) := by
  pointwise [val_main_v1, val_main_v0]
  simp only [hx, hg, ← EReal.coe_mul]
  exact coe_sum _

/-- A row's two choices, -/
theorem places_eq (r : Fin 2048) (t : Fin 2) :
    val_main_indices (F := Ideal) x0 x1 (ix2 r t)
      = BitVec.ofNat 32 (pick (fun j => ((logit X G r j : ℝ) : EReal)) t).val := by
  have hs : (fun j => val_main_v1 (F := Ideal) x0 x1 (ix2 r j)) = fun j => ((logit X G r j : ℝ) : EReal) :=
    funext fun j => score_coe x0 x1 X G hx hg r j
  have h := topK_places (val_main_v1 (F := Ideal) x0 x1) r
    (fun j => by rw [score_coe x0 x1 X G hx hg]; exact EReal.coe_ne_bot _) t
  rw [hs] at h
  exact h

/-- and their scores. -/
theorem values_eq (r : Fin 2048) (t : Fin 2) :
    val_main_values (F := Ideal) x0 x1 (ix2 r t)
      = ((logit X G r (pick (fun j => ((logit X G r j : ℝ) : EReal)) t) : ℝ) : EReal) := by
  have hs : (fun j => val_main_v1 (F := Ideal) x0 x1 (ix2 r j)) = fun j => ((logit X G r j : ℝ) : EReal) :=
    funext fun j => score_coe x0 x1 X G hx hg r j
  have h := topK_values (val_main_v1 (F := Ideal) x0 x1) r
    (fun j => by rw [score_coe x0 x1 X G hx hg]; exact EReal.coe_ne_bot _) t
  rw [hs, score_coe x0 x1 X G hx hg] at h
  exact h

/-- The two choices' softmax. -/
theorem softmax_eq (r : Fin 2048) (t : Fin 2) :
    val_main_v12 (F := Ideal) x0 x1 (ix2 r t)
      = (((if t = 0 then bestGate (logit X G r) else 1 - bestGate (logit X G r)) : ℝ) : EReal) := by
  pointwise [val_main_v12, val_main_v11, val_main_v10, val_main_v9, val_main_v8, val_main_v7, val_main_v6, val_main_v5,
    val_main_v4, val_main_v3, val_main_v2, val_main_cst, val_main_cst_0, val_main_cst_1]
  simp only [values_eq x0 x1 X G hx hg, lit_bot]
  refine (softmax_two (fun t => logit X G r (pick (fun j => ((logit X G r j : ℝ) : EReal)) t)) ?_ t).trans ?_
  · exact EReal.coe_le_coe_iff.1 (le_first (fun j => ((logit X G r j : ℝ) : EReal)) _)
  · rfl

/-- The two index words of an update: its row, -/
theorem word_row (r : Fin 2048) (t : Fin 2) : val_main_v29 (F := Ideal) x0 x1 (ix3 r t 0) = BitVec.ofNat 32 r.val := by
  pointwise [val_main_v29, val_main_v27, val_main_v21, val_main_v20, val_main_v19, val_main_v18, val_main_v17, val_main_v15,
    val_main_v14, val_main_v13, val_main_c, val_main_c_3]
  exact select_slt (by have := r.isLt; omega) _ _

/-- and its choice. -/
theorem word_choice (r : Fin 2048) (t : Fin 2) :
    val_main_v29 (F := Ideal) x0 x1 (ix3 r t 1)
      = BitVec.ofNat 32 (pick (fun j => ((logit X G r j : ℝ) : EReal)) t).val := by
  pointwise [val_main_v29, val_main_v28, val_main_v26, val_main_v25, val_main_v24, val_main_v23, val_main_v22,
    val_main_c_4, val_main_c_5]
  rw [places_eq x0 x1 X G hx hg]
  exact select_slt (lt_trans (Fin.isLt _) (by norm_num)) _ _

/-- Every expert's gate. -/
theorem gates_eq (r : Fin 2048) (e : Fin 8) :
    val_main_v30 (F := Ideal) x0 x1 (ix2 r e) = ((gate (logit X G r) e : ℝ) : EReal) := by
  unfold val_main_v30
  rw [scatter_apply _ (fun i => by pointwise [val_main_v16, val_main_cst_2]) _
    (fun r t => pick (fun j => ((logit X G r j : ℝ) : EReal)) t) (word_row x0 x1 X G hx hg) (word_choice x0 x1 X G hx hg),
    softmax_eq x0 x1 X G hx hg, softmax_eq x0 x1 X G hx hg, if_pos rfl,
    if_neg (show ¬ (1 : Fin 2) = 0 by decide), ← EReal.coe_zero, ← apply_ite, ← apply_ite, ← EReal.coe_add]
  rfl

/-- The loss. -/
theorem loss_eq : val_main_v54 (F := Ideal) x0 x1 = fun _ => ((lossR (logit X G) : ℝ) : EReal) := by
  funext i
  pointwise [val_main_v54, val_main_v53, val_main_v52, val_main_v51, val_main_v50, val_main_v49, val_main_v48, val_main_v47,
    val_main_v46, val_main_v45, val_main_call0_v4, val_main_call0_v3, val_main_call0_v2, val_main_call0_v1, val_main_call0_v0,
    val_main_v44, val_main_v43, val_main_v42, val_main_v41, val_main_v40, val_main_v39, val_main_v38, val_main_v37, val_main_v36,
    val_main_v35, val_main_v34, val_main_v33, val_main_v32, val_main_v31, val_main_cst_6, val_main_cst_7, val_main_cst_8,
    val_main_cst_9, val_main_cst_10, val_main_cst_11, val_main_cst_12, val_main_cst_13, val_main_cst_14, val_main_cst_15,
    val_main_cst_16]
  simp only [score_coe x0 x1 X G hx hg, places_eq x0 x1 X G hx hg, lit_bot]
  simp only [peak_coe, place_eq, bit_coe, ← EReal.coe_sub, Ideal.exp_coe, coe_sum, Fin.sum_univ_two, lit_2048, lit_2, lit_8]
  simp only [coe_div _ _ (expSum_pos _ _).ne', coe_sum, coe_div _ (2048 : ℝ) (by norm_num), coe_div _ (2 : ℝ) (by norm_num),
    ← EReal.coe_mul, div_div]
  norm_num only
  simp only [eq_comm (b := (_ : Fin 8))]
  rfl

end Cert.Moe.Ref

end
-- ==== Proof.RefOut.lean ====
module

public import proofs.«01_k».proof.Proof.RefInput
public import proofs.«01_k».proof.Proof.RefExpert
public import proofs.«01_k».proof.Proof.RefRouter

@[expose] public section

set_option maxRecDepth 16384

noncomputable section

/-! The reference's output over the extended reals, on finite arguments: the eight experts' contributions and the bias. -/

namespace Cert.Moe.Ref

open Idealize.ShloMosaic Cert.ReferenceIdeal Cert.ReferenceIdeal.Gen Cert.ReferenceIdeal.Read

/-- Expert `e` from the quantized rows `xq`, the dequantized weights and the gates. -/
def oneExpert {F : FTy → Type} [FloatOps F] (e : ℕ) (hs : S8x1024x768.Slices ![e, 0, 0] S1x1024x768)
    (ho : S8x768x512.Slices ![e, 0, 0] S1x768x512) (hg : S2048x8.Slices ![0, e] S2048x1) (xq : Vec F S2048x768 .f32)
    (g : Vec F S2048x8 .f32) (wi : Vec F S8x1024x768 .f32) (wo : Vec F S8x768x512 .f32) : Vec F S2048x768 .f32 :=
  expertRows e ho hg wo g (backRows (gluRows (hiddenRows e hs wi xq)))

section Eight

variable {F : FTy → Type} [FloatOps F] (x0 : (⟨S1x2048x768, .f32⟩ : BufTy).Contents (Elt F))
  (x1 : (⟨S768x8, .f32⟩ : BufTy).Contents (Elt F)) (x2 : (⟨S8x1024x768, .f32⟩ : BufTy).Contents (Elt F))
  (x3 : (⟨S8x768x512, .f32⟩ : BufTy).Contents (Elt F))

/-- Expert `e` of the reference's arguments. -/
def termOf (e : ℕ) (hs : S8x1024x768.Slices ![e, 0, 0] S1x1024x768)
    (ho : S8x768x512.Slices ![e, 0, 0] S1x768x512) (hg : S2048x8.Slices ![0, e] S2048x1) : Vec F S2048x768 .f32 :=
  oneExpert e hs ho hg (val_main_v69 (F := F) x0) (val_main_v30 (F := F) x0 x1) (val_main_v86 (F := F) x2)
    (val_main_v103 (F := F) x3)

/-! Each of the reference's eight terms is that expert's. -/

theorem term_0 : val_main_v134 (F := F) x0 x1 x2 x3 = termOf x0 x1 x2 x3 0 slices_S8x1024x768_S1x1024x768_0_0_0
    slices_S8x768x512_S1x768x512_0_0_0 slices_S2048x8_S2048x1_0_0 := rfl
theorem term_1 : val_main_v165 (F := F) x0 x1 x2 x3 = termOf x0 x1 x2 x3 1 slices_S8x1024x768_S1x1024x768_1_0_0
    slices_S8x768x512_S1x768x512_1_0_0 slices_S2048x8_S2048x1_0_1 := rfl
theorem term_2 : val_main_v196 (F := F) x0 x1 x2 x3 = termOf x0 x1 x2 x3 2 slices_S8x1024x768_S1x1024x768_2_0_0
    slices_S8x768x512_S1x768x512_2_0_0 slices_S2048x8_S2048x1_0_2 := rfl
theorem term_3 : val_main_v227 (F := F) x0 x1 x2 x3 = termOf x0 x1 x2 x3 3 slices_S8x1024x768_S1x1024x768_3_0_0
    slices_S8x768x512_S1x768x512_3_0_0 slices_S2048x8_S2048x1_0_3 := rfl
theorem term_4 : val_main_v258 (F := F) x0 x1 x2 x3 = termOf x0 x1 x2 x3 4 slices_S8x1024x768_S1x1024x768_4_0_0
    slices_S8x768x512_S1x768x512_4_0_0 slices_S2048x8_S2048x1_0_4 := rfl
theorem term_5 : val_main_v289 (F := F) x0 x1 x2 x3 = termOf x0 x1 x2 x3 5 slices_S8x1024x768_S1x1024x768_5_0_0
    slices_S8x768x512_S1x768x512_5_0_0 slices_S2048x8_S2048x1_0_5 := rfl
theorem term_6 : val_main_v320 (F := F) x0 x1 x2 x3 = termOf x0 x1 x2 x3 6 slices_S8x1024x768_S1x1024x768_6_0_0
    slices_S8x768x512_S1x768x512_6_0_0 slices_S2048x8_S2048x1_0_6 := rfl
theorem term_7 : val_main_v351 (F := F) x0 x1 x2 x3 = termOf x0 x1 x2 x3 7 slices_S8x1024x768_S1x1024x768_7_0_0
    slices_S8x768x512_S1x768x512_7_0_0 slices_S2048x8_S2048x1_0_7 := rfl

end Eight

variable (x0 : (⟨S1x2048x768, .f32⟩ : BufTy).Contents (Elt Ideal)) (x1 : (⟨S768x8, .f32⟩ : BufTy).Contents (Elt Ideal))
  (x2 : (⟨S8x1024x768, .f32⟩ : BufTy).Contents (Elt Ideal)) (x3 : (⟨S8x768x512, .f32⟩ : BufTy).Contents (Elt Ideal))
  (x4 : (⟨S768, .f32⟩ : BufTy).Contents (Elt Ideal)) (X : Fin 2048 → Fin 768 → ℝ) (G : Fin 768 → Fin 8 → ℝ)
  (WI : Fin 8 → Fin 1024 → Fin 768 → ℝ) (WO : Fin 8 → Fin 768 → Fin 512 → ℝ)
  (hx : ∀ r k, x0 (ix3 0 r k) = ((X r k : ℝ) : EReal)) (hg : ∀ k j, x1 (ix2 k j) = ((G k j : ℝ) : EReal))
  (hi : ∀ e j k, x2 (ix3 e j k) = ((WI e j k : ℝ) : EReal)) (ho : ∀ e d k, x3 (ix3 e d k) = ((WO e d k : ℝ) : EReal))

include hx hg hi ho

/-- Any expert's term. -/
theorem termOf_coe (e : Fin 8) (s1 : S8x1024x768.Slices ![e.val, 0, 0] S1x1024x768)
    (s2 : S8x768x512.Slices ![e.val, 0, 0] S1x768x512) (s3 : S2048x8.Slices ![0, e.val] S2048x1) (r : Fin 2048) (d : Fin 768) :
    termOf x0 x1 x2 x3 e.val s1 s2 s3 (ix2 r d)
      = ((contrib (gate (logit X G r) e) (dq8 (X r)) (WI e) (WO e) d : ℝ) : EReal) :=
  expertRows_coe e s2 s3 _ _ _ (dq2 393216 (WO e)) (fun r => gate (logit X G r) e)
    (fun r => dq8 (glu (hidden (dq8 (X r)) (dq2 786432 (WI e))))) (fun d k => wOut_eq x3 WO ho e d k)
    (fun r => gates_eq x0 x1 X G hx hg r e)
    (fun r k => backRows_coe _ (fun r => glu (hidden (dq8 (X r)) (dq2 786432 (WI e))))
      (fun r k => gluRows_coe _ (fun r => hidden (dq8 (X r)) (dq2 786432 (WI e)))
        (fun r j => hiddenRows_coe e s1 _ _ (dq2 786432 (WI e)) (fun r => dq8 (X r)) (fun j k => wIn_eq x2 WI hi e j k)
          (fun r k => input_eq x0 X hx r k) r j) r k) r k) r d

/-- The output: the experts' contributions and the bias. -/
theorem out_eq (r : Fin 2048) (d : Fin 768) :
    val_main_v356 (F := Ideal) x0 x1 x2 x3 x4 (ix3 0 r d)
      = (∑ e : Fin 8, ((contrib (gate (logit X G r) e) (dq8 (X r)) (WI e) (WO e) d : ℝ) : EReal)) + x4 (ix1 d) := by
  have h := termOf_coe x0 x1 x2 x3 X G WI WO hx hg hi ho
  pointwise [val_main_v356, val_main_v355, val_main_v354, val_main_v353, val_main_v352, val_main_v321, val_main_v290,
    val_main_v259, val_main_v228, val_main_v197, val_main_v166, val_main_v135, val_main_v104, val_main_cst_34]
  rw [term_0, term_1, term_2, term_3, term_4, term_5, term_6, term_7, Fin.sum_univ_eight,
    ← h 0 slices_S8x1024x768_S1x1024x768_0_0_0 slices_S8x768x512_S1x768x512_0_0_0 slices_S2048x8_S2048x1_0_0,
    ← h 1 slices_S8x1024x768_S1x1024x768_1_0_0 slices_S8x768x512_S1x768x512_1_0_0 slices_S2048x8_S2048x1_0_1,
    ← h 2 slices_S8x1024x768_S1x1024x768_2_0_0 slices_S8x768x512_S1x768x512_2_0_0 slices_S2048x8_S2048x1_0_2,
    ← h 3 slices_S8x1024x768_S1x1024x768_3_0_0 slices_S8x768x512_S1x768x512_3_0_0 slices_S2048x8_S2048x1_0_3,
    ← h 4 slices_S8x1024x768_S1x1024x768_4_0_0 slices_S8x768x512_S1x768x512_4_0_0 slices_S2048x8_S2048x1_0_4,
    ← h 5 slices_S8x1024x768_S1x1024x768_5_0_0 slices_S8x768x512_S1x768x512_5_0_0 slices_S2048x8_S2048x1_0_5,
    ← h 6 slices_S8x1024x768_S1x1024x768_6_0_0 slices_S8x768x512_S1x768x512_6_0_0 slices_S2048x8_S2048x1_0_6,
    ← h 7 slices_S8x1024x768_S1x1024x768_7_0_0 slices_S8x768x512_S1x768x512_7_0_0 slices_S2048x8_S2048x1_0_7]
  rfl

end Cert.Moe.Ref

end
-- ==== Proof.Finite.lean ====
module

public import proofs.«01_k».proof.Proof.Spec
public import proofs.«01_k».proof.Proof.Gen.Pre_finite

@[expose] public section

noncomputable section

/-! The precondition says its four arrays hold real numbers. -/

namespace Cert.Moe

open Idealize.ShloMosaic Cert.Pre_finite

/-- A number whose absolute value is below the infinity is real. -/
theorem real_of_bit (x : EReal) (h : FloatOps.cmpf (F := Ideal) (φ := .f32) .olt (FloatOps.absf (F := Ideal) (φ := .f32) x)
    (Ideal.ofBits .f32 0x7F800000#32) = 1#1) : x = ((x.toReal : ℝ) : EReal) := by
  have ht : Ideal.ofBits .f32 0x7F800000#32 = (⊤ : EReal) := by simp [Ideal.ofBits, Ideal.ieee]
  have hl : max x (-x) < ⊤ := by
    rw [ht] at h
    by_contra hn
    have : (FloatOps.cmpf (F := Ideal) (φ := .f32) .olt (FloatOps.absf (F := Ideal) (φ := .f32) x) (⊤ : EReal) : BitVec 1)
        = BitVec.ofBool (decide (max x (-x) < ⊤)) := rfl
    rw [this, decide_eq_false hn] at h
    exact absurd h (by decide)
  rw [max_lt_iff] at hl
  refine (EReal.coe_toReal hl.1.ne ?_).symm
  intro hb
  rw [hb] at hl
  exact absurd hl.2 (by simp)

/-- The four arrays of the precondition, as real numbers. -/
theorem reals (x0 : FVec Ideal S1x2048x768 .f32) (x1 : FVec Ideal S768x8 .f32) (x2 : FVec Ideal S8x1024x768 .f32)
    (x3 : FVec Ideal S8x768x512 .f32) (x4 : FVec Ideal S768 .f32) (h0 : (fn x0 x1 x2 x3 x4).1 = fun _ => 1#1)
    (h1 : (fn x0 x1 x2 x3 x4).2.1 = fun _ => 1#1) (h2 : (fn x0 x1 x2 x3 x4).2.2.1 = fun _ => 1#1)
    (h3 : (fn x0 x1 x2 x3 x4).2.2.2 = fun _ => 1#1) :
    ∃ (X : Fin 2048 → Fin 768 → ℝ) (G : Fin 768 → Fin 8 → ℝ) (WI : Fin 8 → Fin 1024 → Fin 768 → ℝ)
      (WO : Fin 8 → Fin 768 → Fin 512 → ℝ), (∀ r k, x0 (ix3 0 r k) = ((X r k : ℝ) : EReal))
      ∧ (∀ k j, x1 (ix2 k j) = ((G k j : ℝ) : EReal)) ∧ (∀ e j k, x2 (ix3 e j k) = ((WI e j k : ℝ) : EReal))
      ∧ ∀ e d k, x3 (ix3 e d k) = ((WO e d k : ℝ) : EReal) :=
  ⟨fun r k => (x0 (ix3 0 r k) : EReal).toReal, fun k j => (x1 (ix2 k j) : EReal).toReal,
    fun e j k => (x2 (ix3 e j k) : EReal).toReal, fun e d k => (x3 (ix3 e d k) : EReal).toReal,
    fun r k => real_of_bit _ (congrFun h0 (ix3 0 r k)), fun k j => real_of_bit _ (congrFun h1 (ix2 k j)),
    fun e j k => real_of_bit _ (congrFun h2 (ix3 e j k)), fun e d k => real_of_bit _ (congrFun h3 (ix3 e d k))⟩

end Cert.Moe

end
-- ==== Proof.Same.lean ====
/- The idealization changed nothing in the kernel, so the printed program and the idealized one are one and the same: the frame of
   the latter (Proof/Launched.lean) is the former's. Each stretch of the kernel is compared first, which keeps every comparison small. -/
module

public import proofs.«01_k».proof.Proof.Gen.Kernel
public import proofs.«01_k».proof.Proof.Launched

@[expose] public section

set_option maxRecDepth 16384

noncomputable section

namespace Cert.Moe

open Idealize.ShloMosaic Idealize.SL.Sem

variable {F : FTy → Type} [FloatOps F]

/-- The two kernel functions are the same. -/
theorem body_same : Cert.Kernel.cc0__moe_kernel (F := F) = Cert.KernelIdeal.cc0__moe_kernel (F := F) := rfl

/-- The tables of bodies are the same: the one label runs the same function. -/
theorem bodies_same : Cert.Kernel.defs₀ (F := F) = Cert.KernelIdeal.defs₀ (F := F) := by
  refine congrArg Defs.onTc ?_
  funext l a
  obtain ⟨l, hl⟩ := l
  cases l with
  | zero => obtain ⟨t, s⟩ := a; rfl
  | succ n => exact absurd hl (Nat.not_lt.2 (Nat.le_add_left _ _))

/-- And with the pipeline's own bodies added they still are. -/
theorem tables_same : Cert.Kernel.defs (F := F) = Cert.KernelIdeal.defs (F := F) :=
  congrArg (Pipeline.defs Cert.KernelIdeal.pcfgs) bodies_same

/-- The mains are the same. -/
theorem main_same : Cert.Kernel.main (F := F) = Cert.KernelIdeal.main (F := F) := rfl

/-- The kernel's run leaves its arguments as they were and its counters at zero. -/
theorem printed_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1)
        ∧ r.2.mem ((c.tc : Thread Cert.Kernel.nD Cert.Kernel.τ).loc Cert.Kernel.main_arg2)
            = m ((c.tc : Thread Cert.Kernel.nD Cert.Kernel.τ).loc Cert.Kernel.main_arg2)
        ∧ r.2.mem ((c.tc : Thread Cert.Kernel.nD Cert.Kernel.τ).loc Cert.Kernel.main_arg3)
            = m ((c.tc : Thread Cert.Kernel.nD Cert.Kernel.τ).loc Cert.Kernel.main_arg3)
        ∧ r.2.mem ((c.tc : Thread Cert.Kernel.nD Cert.Kernel.τ).loc Cert.Kernel.main_arg4)
            = m ((c.tc : Thread Cert.Kernel.nD Cert.Kernel.τ).loc Cert.Kernel.main_arg4))
      ∧ r.2.sem = fun _ => 0) := by
  rw [tables_same (F := F), main_same (F := F)]
  exact kernel_frame (F := F) m g

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelOut
public import proofs.«01_k».proof.Proof.RefOut
public import proofs.«01_k».proof.Proof.Finite
public import proofs.«01_k».proof.Proof.Same
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference leaves its arguments as they were and every counter at zero. -/
theorem reference_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference's output read at real arguments: the kernel's. -/
theorem out_agree (x0 : Vec Ideal Cert.KernelIdeal.S1x2048x768 .f32) (x1 : Vec Ideal Cert.KernelIdeal.S768x8 .f32)
    (x2 : Vec Ideal Cert.KernelIdeal.S8x1024x768 .f32) (x3 : Vec Ideal Cert.KernelIdeal.S8x768x512 .f32)
    (x4 : Vec Ideal Cert.KernelIdeal.S768 .f32)
    (m : (ℓ : Loc Cert.KernelIdeal.nD Cert.KernelIdeal.τ Cert.KernelIdeal.sig) → Buf (Elt Ideal) ℓ) (c : Dev Cert.KernelIdeal.nD)
    (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (h2 : m ((c.tc : Thread Cert.KernelIdeal.nD Cert.KernelIdeal.τ).loc Cert.KernelIdeal.main_arg2) = x2)
    (h3 : m ((c.tc : Thread Cert.KernelIdeal.nD Cert.KernelIdeal.τ).loc Cert.KernelIdeal.main_arg3) = x3)
    (h4 : m ((c.tc : Thread Cert.KernelIdeal.nD Cert.KernelIdeal.τ).loc Cert.KernelIdeal.main_arg4) = x4)
    (f0 : (Cert.Pre_finite.fn (F := Ideal) x0 x1 x2 x3 x4).1 = fun _ => 1#1)
    (f1 : (Cert.Pre_finite.fn (F := Ideal) x0 x1 x2 x3 x4).2.1 = fun _ => 1#1)
    (f2 : (Cert.Pre_finite.fn (F := Ideal) x0 x1 x2 x3 x4).2.2.1 = fun _ => 1#1)
    (f3 : (Cert.Pre_finite.fn (F := Ideal) x0 x1 x2 x3 x4).2.2.2 = fun _ => 1#1) :
    Cert.ReferenceIdeal.Read.val_main_v356 (F := Ideal) x0 x1 x2 x3 x4 = Cert.Moe.result0 m c
      ∧ Cert.ReferenceIdeal.Read.val_main_v54 (F := Ideal) x0 x1 = Cert.Moe.result1 m c := by
  obtain ⟨X, G, WI, WO, hx, hg, hi, ho⟩ := Cert.Moe.reals x0 x1 x2 x3 x4 f0 f1 f2 f3
  refine ⟨?_, ?_⟩
  · funext i
    have hv : (i 0).val < 1 := (i 0).isLt
    have hz : i = ix3 (0 : Fin 1) (i 1) (i 2) := (eq_ix3 i).trans
      (congrArg (fun a : Fin 1 => ix3 a (i 1) (i 2)) (Fin.ext (by show (i 0).val = 0; omega)))
    rw [hz]
    exact (Cert.Moe.Ref.out_eq x0 x1 x2 x3 x4 X G WI WO hx hg hi ho _ _).trans ((add_comm _ _).trans
      (Cert.Moe.result0_coe m c x0 x1 x2 x3 x4 h0 h1 h2 h3 h4 X G WI WO hx hg hi ho _ _).symm)
  · exact (Cert.Moe.Ref.loss_eq x0 x1 X G hx hg).trans (Cert.Moe.result1_coe m c x0 x1 h0 h1 X G hx hg).symm

/-- From arguments that agree, both programs end with the kernel's two results. -/
theorem algebraic : Cert.algebraic_KernelIdeal_ReferenceIdeal_pre_finite := by
  intro m g m' g' hpre hagree
  refine ⟨fun c => Cert.Moe.result0 m c, fun c => Cert.Moe.result1 m c, ?_, ?_⟩
  · exact (θ_run Cert.KernelIdeal.defs _ _).mono (fun r h c => ⟨(h.1 c).1, (h.1 c).2, h.2.1 c⟩)
      (θ_run_and (Cert.Moe.kernel_results (F := Ideal) m g) (Cert.Moe.kernel_frame (F := Ideal) m g))
  · refine (θ_run Cert.ReferenceIdeal.defs _ _).mono (fun r h c => ?_) (Cert.ReferenceIdeal.Value.run (F := Ideal) m' g')
    obtain ⟨f0, f1, f2, f3⟩ := hpre c
    obtain ⟨a0, a1, a2, a3, a4⟩ := hagree c
    have e := out_agree _ _ _ _ _ m c a0.symm a1.symm a2.symm a3.symm a4.symm
      (by rw [a0, a1, a2, a3, a4]; exact f0) (by rw [a0, a1, a2, a3, a4]; exact f1)
      (by rw [a0, a1, a2, a3, a4]; exact f2) (by rw [a0, a1, a2, a3, a4]; exact f3)
    exact ⟨((h c).1.trans (Cert.ReferenceIdeal.Read.val_main_v356_eq _)).trans e.1,
      ((h c).2.1.trans (Cert.ReferenceIdeal.Read.val_main_v54_eq _)).trans e.2, (h c).2.2⟩

theorem claim : Cert.Claim := ⟨Cert.Kernel.Gen.facts, Cert.KernelIdeal.Gen.facts, Cert.ReferenceIdeal.Gen.facts,
  Cert.Pre_finite.Gen.facts, fun m g _ => Cert.Moe.printed_frame (F := Bits) m g, fun m g _ => Cert.Moe.kernel_frame (F := Ideal) m g,
  fun m g _ => Cert.Moe.kernel_frame (F := Ideal) m g, reference_frame, fun m g _ => reference_frame m g trivial, trivial,
  algebraic⟩

end Cert.Proof

end
